-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 8192, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 8192, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x512 : Shape := ⟨3, ![2, 256, 512]⟩
abbrev S512x256 : Shape := ⟨2, ![512, 256]⟩
abbrev S2x256x8192 : Shape := ⟨3, ![2, 256, 8192]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x8192 : S_.BroadcastsInDim S2x256x8192 (![] : Fin 0 → Fin S2x256x8192.rank)
  reducesTo_S2x256x8192_S_d0_1_2 : S2x256x8192.ReducesTo [0, 1, 2] S_

variable [Facts]

def fn_part1 {F : FTy → Type} [FloatOps F] (main_arg2 : FVec F S2x256x8192 .bf16) (main_v12 : IVec S_ 1) (main_v14 : IVec S2x256x8192 1) (main_v15 : FVec F S2x256x8192 .bf16) : IVec S_ 1 :=
  let main_v16 : IVec S2x256x8192 1 := cmpf .olt main_arg2 main_v15
  let main_v17 : IVec S2x256x8192 1 := andi main_v14 main_v16
  let main_c_6 : IVec S_ 1 := constantI S_ 1 1#1
  let main_v18 : IVec S_ 1 := (fun x v => Host.reduce IntOp.andi x v reducesTo_S2x256x8192_S_d0_1_2 h_S_) main_v17 main_c_6
  let main_v19 : IVec S_ 1 := andi main_v12 main_v18
  main_v19

def fn {F : FTy → Type} [FloatOps F] (main_arg0 : FVec F S2x256x512 .bf16) (main_arg1 : FVec F S512x256 .bf16) (main_arg2 : FVec F S2x256x8192 .bf16) (main_arg3 : FVec F S2x256x8192 .bf16) (main_arg4 : FVec F S256x512 .bf16) : IVec S_ 1 :=
  let main_cst : FVec F S_ .bf16 := constant S_ .bf16 0xFF80#16
  let main_v0 : FVec F S2x256x512 .bf16 := broadcastInDim S2x256x512 ![] bcast_S_S2x256x512 main_cst
  let main_v1 : IVec S2x256x512 1 := cmpf .ogt main_arg0 main_v0
  let main_cst_0 : FVec F S_ .bf16 := constant S_ .bf16 0x7F80#16
  let main_v2 : FVec F S2x256x512 .bf16 := broadcastInDim S2x256x512 ![] bcast_S_S2x256x512 main_cst_0
  let main_v3 : IVec S2x256x512 1 := cmpf .olt main_arg0 main_v2
  let main_v4 : IVec S2x256x512 1 := andi main_v1 main_v3
  let main_c : IVec S_ 1 := constantI S_ 1 1#1
  let main_v5 : IVec S_ 1 := (fun x v => Host.reduce IntOp.andi x v reducesTo_S2x256x512_S_d0_1_2 h_S_) main_v4 main_c
  let main_cst_1 : FVec F S_ .bf16 := constant S_ .bf16 0xFF80#16
  let main_v6 : FVec F S512x256 .bf16 := broadcastInDim S512x256 ![] bcast_S_S512x256 main_cst_1
  let main_v7 : IVec S512x256 1 := cmpf .ogt main_arg1 main_v6
  let main_cst_2 : FVec F S_ .bf16 := constant S_ .bf16 0x7F80#16
  let main_v8 : FVec F S512x256 .bf16 := broadcastInDim S512x256 ![] bcast_S_S512x256 main_cst_2
  let main_v9 : IVec S512x256 1 := cmpf .olt main_arg1 main_v8
  let main_v10 : IVec S512x256 1 := andi main_v7 main_v9
  let main_c_3 : IVec S_ 1 := constantI S_ 1 1#1
  let main_v11 : IVec S_ 1 := (fun x v => Host.reduce IntOp.andi x v reducesTo_S512x256_S_d0_1 h_S_) main_v10 main_c_3
  let main_v12 : IVec S_ 1 := andi main_v5 main_v11
  let main_cst_4 : FVec F S_ .bf16 := constant S_ .bf16 0xFF80#16
  let main_v13 : FVec F S2x256x8192 .bf16 := broadcastInDim S2x256x8192 ![] bcast_S_S2x256x8192 main_cst_4
  let main_v14 : IVec S2x256x8192 1 := cmpf .ogt main_arg2 main_v13
  let main_cst_5 : FVec F S_ .bf16 := constant S_ .bf16 0x7F80#16
  let main_v15 : FVec F S2x256x8192 .bf16 := broadcastInDim S2x256x8192 ![] bcast_S_S2x256x8192 main_cst_5
  fn_part1 (F := F) main_arg2 main_v12 main_v14 main_v15
-- ==== Pre_scores_finite_ReferenceIdeal.lean ====
abbrev S2x8192x512 : Shape := ⟨3, ![2, 8192, 512]⟩
abbrev S512x8192 : Shape := ⟨2, ![512, 8192]⟩
abbrev S2x256x8192 : Shape := ⟨3, ![2, 256, 8192]⟩
abbrev S8192x512 : Shape := ⟨2, ![8192, 512]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S2x256x8192 : S_.BroadcastsInDim S2x256x8192 (![] : Fin 0 → Fin S2x256x8192.rank)
  reducesTo_S2x256x8192_S_d0_1_2 : S2x256x8192.ReducesTo [0, 1, 2] S_

variable [Facts]

def fn_part1 {F : FTy → Type} [FloatOps F] (main_arg2 : FVec F S2x256x8192 .bf16) (main_v12 : IVec S_ 1) (main_v14 : IVec S2x256x8192 1) (main_v15 : FVec F S2x256x8192 .bf16) : IVec S_ 1 :=
  let main_v16 : IVec S2x256x8192 1 := cmpf .olt main_arg2 main_v15
  let main_v17 : IVec S2x256x8192 1 := andi main_v14 main_v16
  let main_c_6 : IVec S_ 1 := constantI S_ 1 1#1
  let main_v18 : IVec S_ 1 := (fun x v => Host.reduce IntOp.andi x v reducesTo_S2x256x8192_S_d0_1_2 h_S_) main_v17 main_c_6
  let main_v19 : IVec S_ 1 := andi main_v12 main_v18
  main_v19

def fn {F : FTy → Type} [FloatOps F] (main_arg0 : FVec F S2x8192x512 .bf16) (main_arg1 : FVec F S512x8192 .bf16) (main_arg2 : FVec F S2x256x8192 .bf16) (main_arg3 : FVec F S2x256x8192 .bf16) (main_arg4 : FVec F S8192x512 .bf16) : IVec S_ 1 :=
  let main_cst : FVec F S_ .bf16 := constant S_ .bf16 0xFF80#16
  let main_v0 : FVec F S2x8192x512 .bf16 := broadcastInDim S2x8192x512 ![] bcast_S_S2x8192x512 main_cst
  let main_v1 : IVec S2x8192x512 1 := cmpf .ogt main_arg0 main_v0
  let main_cst_0 : FVec F S_ .bf16 := constant S_ .bf16 0x7F80#16
  let main_v2 : FVec F S2x8192x512 .bf16 := broadcastInDim S2x8192x512 ![] bcast_S_S2x8192x512 main_cst_0
  let main_v3 : IVec S2x8192x512 1 := cmpf .olt main_arg0 main_v2
  let main_v4 : IVec S2x8192x512 1 := andi main_v1 main_v3
  let main_c : IVec S_ 1 := constantI S_ 1 1#1
  let main_v5 : IVec S_ 1 := (fun x v => Host.reduce IntOp.andi x v reducesTo_S2x8192x512_S_d0_1_2 h_S_) main_v4 main_c
  let main_cst_1 : FVec F S_ .bf16 := constant S_ .bf16 0xFF80#16
  let main_v6 : FVec F S512x8192 .bf16 := broadcastInDim S512x8192 ![] bcast_S_S512x8192 main_cst_1
  let main_v7 : IVec S512x8192 1 := cmpf .ogt main_arg1 main_v6
  let main_cst_2 : FVec F S_ .bf16 := constant S_ .bf16 0x7F80#16
  let main_v8 : FVec F S512x8192 .bf16 := broadcastInDim S512x8192 ![] bcast_S_S512x8192 main_cst_2
  let main_v9 : IVec S512x8192 1 := cmpf .olt main_arg1 main_v8
  let main_v10 : IVec S512x8192 1 := andi main_v7 main_v9
  let main_c_3 : IVec S_ 1 := constantI S_ 1 1#1
  let main_v11 : IVec S_ 1 := (fun x v => Host.reduce IntOp.andi x v reducesTo_S512x8192_S_d0_1 h_S_) main_v10 main_c_3
  let main_v12 : IVec S_ 1 := andi main_v5 main_v11
  let main_cst_4 : FVec F S_ .bf16 := constant S_ .bf16 0xFF80#16
  let main_v13 : FVec F S2x256x8192 .bf16 := broadcastInDim S2x256x8192 ![] bcast_S_S2x256x8192 main_cst_4
  let main_v14 : IVec S2x256x8192 1 := cmpf .ogt main_arg2 main_v13
  let main_cst_5 : FVec F S_ .bf16 := constant S_ .bf16 0x7F80#16
  let main_v15 : FVec F S2x256x8192 .bf16 := broadcastInDim S2x256x8192 ![] bcast_S_S2x256x8192 main_cst_5
  fn_part1 (F := F) main_arg2 main_v12 main_v14 main_v15
-- ==== Kernel.lean ====
abbrev S2x256x512 : Shape := ⟨3, ![2, 256, 512]⟩
abbrev S512x256 : Shape := ⟨2, ![512, 256]⟩
abbrev S2x256x8192 : Shape := ⟨3, ![2, 256, 8192]⟩
abbrev S256x512 : Shape := ⟨2, ![256, 512]⟩
abbrev S2x2x256x512 : Shape := ⟨4, ![2, 2, 256, 512]⟩
abbrev S2x2x2x2x256x256 : Shape := ⟨6, ![2, 2, 2, 2, 256, 256]⟩
abbrev S2 : Shape := ⟨1, ![2]⟩
abbrev S2x2 : Shape := ⟨2, ![2, 2]⟩
abbrev S_ : Shape := ⟨0, ![]⟩
abbrev S1x1x256x512 : Shape := ⟨4, ![1, 1, 256, 512]⟩
abbrev S1x1 : Shape := ⟨2, ![1, 1]⟩
abbrev S1x1x1x1x256x256 : Shape := ⟨6, ![1, 1, 1, 1, 256, 256]⟩
abbrev S256x256 : Shape := ⟨2, ![256, 256]⟩
abbrev S1x256x256 : Shape := ⟨3, ![1, 256, 256]⟩
abbrev S1 : Shape := ⟨1, ![1]⟩
abbrev S1x2x256x512 : Shape := ⟨4, ![1, 2, 256, 512]⟩
abbrev S512x512 : Shape := ⟨2, ![512, 512]⟩
abbrev S1x1x1x2x256x256 : Shape := ⟨6, ![1, 1, 1, 2, 256, 256]⟩
abbrev S2x256x256 : Shape := ⟨3, ![2, 256, 256]⟩
abbrev S512x64 : Shape := ⟨2, ![512, 64]⟩
abbrev S8x64x64 : Shape := ⟨3, ![8, 64, 64]⟩
abbrev S2x256x64 : Shape := ⟨3, ![2, 256, 64]⟩
abbrev S8x64 : Shape := ⟨2, ![8, 64]⟩
abbrev S8x64x1 : Shape := ⟨3, ![8, 64, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x8192, .bf16⟩
  | .hbm, ⟨3, _⟩ => ⟨S2x256x8192, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x8192, .bf16⟩
  | .local _ .vmem, ⟨3, _⟩ => ⟨S2x256x8192, .bf16⟩
  | .local _ .vmem, ⟨4, _⟩ => ⟨S256x512, .bf16⟩
  | .local _ .vmem, ⟨5, _⟩ => ⟨S2x256x512, .f32⟩
  | .local _ .vmem, ⟨6, _⟩ => ⟨S2x2x256x512, .bf16⟩
  | .local _ .vmem, ⟨7, _⟩ => ⟨S2x2x256x512, .bf16⟩
  | .local _ .vmem, ⟨8, _⟩ => ⟨S2x2x2x2x256x256, .bf16⟩
  | .local _ .vmem, ⟨9, _⟩ => ⟨S512x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_23 : BitVec 32) : Fin 3 → Nat :=
  let c0_i32_28 : BitVec 32 := 0#32
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v26 : BitVec 32 := Scalar.subi v2 c0_i32_23
  let c64_i32 : BitVec 32 := 64#32
  let v27 : BitVec 32 := Scalar.addi v26 c64_i32
  let c32_i32_24 : BitVec 32 := 32#32
  let v28 : BitVec 32 := Scalar.remsi v27 c32_i32_24
  let c256_i32 : BitVec 32 := 256#32
  let v29 : BitVec 32 := Scalar.muli v28 c256_i32
  ![0, 0, v29.toNat]
def k0_off1_at (r : Fin 4) : BitVec 32 :=
  if r.val < 2 then
    if r.val < 1 then
      0#32
    else
      1#32
  else
    if r.val < 3 then
      16#32
    else
      15#32
def k0_off2 (d0 : Dev nD) (c0_i32_23 : BitVec 32) : Fin 3 → Nat :=
  let c1_i32_38 : BitVec 32 := 1#32
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v26 : BitVec 32 := Scalar.subi v2 c0_i32_23
  let c64_i32 : BitVec 32 := 64#32
  let v27 : BitVec 32 := Scalar.addi v26 c64_i32
  let c32_i32_24 : BitVec 32 := 32#32
  let v28 : BitVec 32 := Scalar.remsi v27 c32_i32_24
  let c256_i32_25 : BitVec 32 := 256#32
  let v30 : BitVec 32 := Scalar.muli v28 c256_i32_25
  ![1, 0, v30.toNat]
def k0_off2_at (r : Fin 4) : BitVec 32 :=
  if r.val < 2 then
    if r.val < 1 then
      0#32
    else
      1#32
  else
    if r.val < 3 then
      16#32
    else
      15#32
def k0_off3 (d0 : Dev nD) (c1_i32_115 : BitVec 32) : Fin 3 → Nat :=
  let c0_i32_121 : BitVec 32 := 0#32
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v88 : BitVec 32 := Scalar.addi v2 c1_i32_115
  let c32_i32_116 : BitVec 32 := 32#32
  let v89 : BitVec 32 := Scalar.remsi v88 c32_i32_116
  let c256_i32_117 : BitVec 32 := 256#32
  let v90 : BitVec 32 := Scalar.muli v89 c256_i32_117
  ![0, 0, v90.toNat]
def k0_off4 (d0 : Dev nD) (c1_i32_115 : BitVec 32) : Fin 3 → Nat :=
  let c1_i32_131 : BitVec 32 := 1#32
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v88 : BitVec 32 := Scalar.addi v2 c1_i32_115
  let c32_i32_116 : BitVec 32 := 32#32
  let v89 : BitVec 32 := Scalar.remsi v88 c32_i32_116
  let c256_i32_118 : BitVec 32 := 256#32
  let v91 : BitVec 32 := Scalar.muli v89 c256_i32_118
  ![1, 0, v91.toNat]
def k0_dev3 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_165 : BitVec 32 := 1#32
  let v118 : BitVec 32 := Scalar.muli v7 c1_i32_165
  let v119 : BitVec 32 := Scalar.addi c0_i32_166 v118
  v119.toNat
def k0_dev4 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_177 : BitVec 32 := 1#32
  let v128 : BitVec 32 := Scalar.muli v5 c1_i32_177
  let v129 : BitVec 32 := Scalar.addi c0_i32_178 v128
  v129.toNat
def k0_dev5 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_334 : BitVec 32 := 1#32
  let v311 : BitVec 32 := Scalar.muli v5 c1_i32_334
  let v312 : BitVec 32 := Scalar.addi c0_i32_335 v311
  v312.toNat
def k0_dev6 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_337 : BitVec 32 := 1#32
  let v313 : BitVec 32 := Scalar.muli v7 c1_i32_337
  let v314 : BitVec 32 := Scalar.addi c0_i32_338 v313
  v314.toNat
@[reducible] def k0_t1_loop : Scf.Loop 32 :=
  let c0_i32_341 : BitVec 32 := 0#32
  let c7_i32 : BitVec 32 := 7#32
  let v315 : BitVec 32 := Scalar.addi c0_i32_341 c7_i32
  let c1_i32_342 : BitVec 32 := 1#32
  ⟨c0_i32_341, v315, c1_i32_342⟩
def k0_dev7 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_744 : BitVec 32 := 1#32
  let v807 : BitVec 32 := Scalar.muli v7 c1_i32_744
  let v808 : BitVec 32 := Scalar.addi c0_i32_745 v807
  v808.toNat
def k0_dev8 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_756 : BitVec 32 := 1#32
  let v817 : BitVec 32 := Scalar.muli v5 c1_i32_756
  let v818 : BitVec 32 := Scalar.addi c0_i32_757 v817
  v818.toNat
def k0_off5 (d0 : Dev nD) (k0_t1 : Fin k0_t1_loop.trips) (c1_i32_739 : BitVec 32) : Fin 3 → Nat :=
  let c0_i32_771 : BitVec 32 := 0#32
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_738 : BitVec 32 := 2#32
  let c0_i32_341 : BitVec 32 := 0#32
  let c1_i32_342 : BitVec 32 := 1#32
  let arg15 : BitVec 32 := Scf.iv c0_i32_341 c1_i32_342 k0_t1
  let v805 : BitVec 32 := Scalar.muli c2_i32_738 arg15
  let v806 : BitVec 32 := Scalar.addi v805 c1_i32_739
  let c1_i32_764 : BitVec 32 := 1#32
  let v827 : BitVec 32 := Scalar.addi v806 c1_i32_764
  let v828 : BitVec 32 := Scalar.subi v2 v827
  let c64_i32_765 : BitVec 32 := 64#32
  let v829 : BitVec 32 := Scalar.addi v828 c64_i32_765
  let c32_i32_766 : BitVec 32 := 32#32
  let v830 : BitVec 32 := Scalar.remsi v829 c32_i32_766
  let c256_i32_767 : BitVec 32 := 256#32
  let v831 : BitVec 32 := Scalar.muli v830 c256_i32_767
  ![0, 0, v831.toNat]
def k0_off6 (d0 : Dev nD) (k0_t1 : Fin k0_t1_loop.trips) (c1_i32_739 : BitVec 32) : Fin 3 → Nat :=
  let c1_i32_781 : BitVec 32 := 1#32
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_738 : BitVec 32 := 2#32
  let c0_i32_341 : BitVec 32 := 0#32
  let c1_i32_342 : BitVec 32 := 1#32
  let arg15 : BitVec 32 := Scf.iv c0_i32_341 c1_i32_342 k0_t1
  let v805 : BitVec 32 := Scalar.muli c2_i32_738 arg15
  let v806 : BitVec 32 := Scalar.addi v805 c1_i32_739
  let c1_i32_764 : BitVec 32 := 1#32
  let v827 : BitVec 32 := Scalar.addi v806 c1_i32_764
  let v828 : BitVec 32 := Scalar.subi v2 v827
  let c64_i32_765 : BitVec 32 := 64#32
  let v829 : BitVec 32 := Scalar.addi v828 c64_i32_765
  let c32_i32_766 : BitVec 32 := 32#32
  let v830 : BitVec 32 := Scalar.remsi v829 c32_i32_766
  let c256_i32_768 : BitVec 32 := 256#32
  let v832 : BitVec 32 := Scalar.muli v830 c256_i32_768
  ![1, 0, v832.toNat]
def k0_off7 (d0 : Dev nD) (k0_t1 : Fin k0_t1_loop.trips) (c1_i32_739 : BitVec 32) : Fin 3 → Nat :=
  let c0_i32_817 : BitVec 32 := 0#32
  let c0_i32_826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_738 : BitVec 32 := 2#32
  let c0_i32_341 : BitVec 32 := 0#32
  let c1_i32_342 : BitVec 32 := 1#32
  let arg15 : BitVec 32 := Scf.iv c0_i32_341 c1_i32_342 k0_t1
  let v805 : BitVec 32 := Scalar.muli c2_i32_738 arg15
  let v806 : BitVec 32 := Scalar.addi v805 c1_i32_739
  let c1_i32_811 : BitVec 32 := 1#32
  let v859 : BitVec 32 := Scalar.addi v806 c1_i32_811
  let v860 : BitVec 32 := Scalar.addi v2 v859
  let c32_i32_812 : BitVec 32 := 32#32
  let v861 : BitVec 32 := Scalar.remsi v860 c32_i32_812
  let c256_i32_813 : BitVec 32 := 256#32
  let v862 : BitVec 32 := Scalar.muli v861 c256_i32_813
  ![0, 0, v862.toNat]
def k0_off8 (d0 : Dev nD) (k0_t1 : Fin k0_t1_loop.trips) (c1_i32_739 : BitVec 32) : Fin 3 → Nat :=
  let c1_i32_827 : BitVec 32 := 1#32
  let c0_i32_836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_738 : BitVec 32 := 2#32
  let c0_i32_341 : BitVec 32 := 0#32
  let c1_i32_342 : BitVec 32 := 1#32
  let arg15 : BitVec 32 := Scf.iv c0_i32_341 c1_i32_342 k0_t1
  let v805 : BitVec 32 := Scalar.muli c2_i32_738 arg15
  let v806 : BitVec 32 := Scalar.addi v805 c1_i32_739
  let c1_i32_811 : BitVec 32 := 1#32
  let v859 : BitVec 32 := Scalar.addi v806 c1_i32_811
  let v860 : BitVec 32 := Scalar.addi v2 v859
  let c32_i32_812 : BitVec 32 := 32#32
  let v861 : BitVec 32 := Scalar.remsi v860 c32_i32_812
  let c256_i32_814 : BitVec 32 := 256#32
  let v863 : BitVec 32 := Scalar.muli v861 c256_i32_814
  ![1, 0, v863.toNat]
def k0_off9 (d0 : Dev nD) (k0_t1 : Fin k0_t1_loop.trips) (c1_i32_739 : BitVec 32) : Fin 3 → Nat :=
  let c0_i32_863 : BitVec 32 := 0#32
  let c0_i32_872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_738 : BitVec 32 := 2#32
  let c0_i32_341 : BitVec 32 := 0#32
  let c1_i32_342 : BitVec 32 := 1#32
  let arg15 : BitVec 32 := Scf.iv c0_i32_341 c1_i32_342 k0_t1
  let v805 : BitVec 32 := Scalar.muli c2_i32_738 arg15
  let v806 : BitVec 32 := Scalar.addi v805 c1_i32_739
  let v890 : BitVec 32 := Scalar.subi v2 v806
  let c64_i32_857 : BitVec 32 := 64#32
  let v891 : BitVec 32 := Scalar.addi v890 c64_i32_857
  let c32_i32_858 : BitVec 32 := 32#32
  let v892 : BitVec 32 := Scalar.remsi v891 c32_i32_858
  let c256_i32_859 : BitVec 32 := 256#32
  let v893 : BitVec 32 := Scalar.muli v892 c256_i32_859
  ![0, 0, v893.toNat]
def k0_off10 (d0 : Dev nD) (k0_t1 : Fin k0_t1_loop.trips) (c1_i32_739 : BitVec 32) : Fin 3 → Nat :=
  let c1_i32_873 : BitVec 32 := 1#32
  let c0_i32_882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_738 : BitVec 32 := 2#32
  let c0_i32_341 : BitVec 32 := 0#32
  let c1_i32_342 : BitVec 32 := 1#32
  let arg15 : BitVec 32 := Scf.iv c0_i32_341 c1_i32_342 k0_t1
  let v805 : BitVec 32 := Scalar.muli c2_i32_738 arg15
  let v806 : BitVec 32 := Scalar.addi v805 c1_i32_739
  let v890 : BitVec 32 := Scalar.subi v2 v806
  let c64_i32_857 : BitVec 32 := 64#32
  let v891 : BitVec 32 := Scalar.addi v890 c64_i32_857
  let c32_i32_858 : BitVec 32 := 32#32
  let v892 : BitVec 32 := Scalar.remsi v891 c32_i32_858
  let c256_i32_860 : BitVec 32 := 256#32
  let v894 : BitVec 32 := Scalar.muli v892 c256_i32_860
  ![1, 0, v894.toNat]
def k0_off11 (d0 : Dev nD) (k0_t1 : Fin k0_t1_loop.trips) (c1_i32_739 : BitVec 32) : Fin 3 → Nat :=
  let c0_i32_966 : BitVec 32 := 0#32
  let c0_i32_975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_738 : BitVec 32 := 2#32
  let c0_i32_341 : BitVec 32 := 0#32
  let c1_i32_342 : BitVec 32 := 1#32
  let arg15 : BitVec 32 := Scf.iv c0_i32_341 c1_i32_342 k0_t1
  let v805 : BitVec 32 := Scalar.muli c2_i32_738 arg15
  let v806 : BitVec 32 := Scalar.addi v805 c1_i32_739
  let v1035 : BitVec 32 := Scalar.addi v2 v806
  let c32_i32_961 : BitVec 32 := 32#32
  let v1036 : BitVec 32 := Scalar.remsi v1035 c32_i32_961
  let c256_i32_962 : BitVec 32 := 256#32
  let v1037 : BitVec 32 := Scalar.muli v1036 c256_i32_962
  ![0, 0, v1037.toNat]
def k0_off12 (d0 : Dev nD) (k0_t1 : Fin k0_t1_loop.trips) (c1_i32_739 : BitVec 32) : Fin 3 → Nat :=
  let c1_i32_976 : BitVec 32 := 1#32
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_738 : BitVec 32 := 2#32
  let c0_i32_341 : BitVec 32 := 0#32
  let c1_i32_342 : BitVec 32 := 1#32
  let arg15 : BitVec 32 := Scf.iv c0_i32_341 c1_i32_342 k0_t1
  let v805 : BitVec 32 := Scalar.muli c2_i32_738 arg15
  let v806 : BitVec 32 := Scalar.addi v805 c1_i32_739
  let v1035 : BitVec 32 := Scalar.addi v2 v806
  let c32_i32_961 : BitVec 32 := 32#32
  let v1036 : BitVec 32 := Scalar.remsi v1035 c32_i32_961
  let c256_i32_963 : BitVec 32 := 256#32
  let v1038 : BitVec 32 := Scalar.muli v1036 c256_i32_963
  ![1, 0, v1038.toNat]
def k0_dev9 (d0 : Dev nD) : Nat :=
  let c0_i32_1112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1111 : BitVec 32 := 1#32
  let v1207 : BitVec 32 := Scalar.muli v5 c1_i32_1111
  let v1208 : BitVec 32 := Scalar.addi c0_i32_1112 v1207
  v1208.toNat
def k0_dev10 (d0 : Dev nD) : Nat :=
  let c0_i32_1115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1114 : BitVec 32 := 1#32
  let v1209 : BitVec 32 := Scalar.muli v7 c1_i32_1114
  let v1210 : BitVec 32 := Scalar.addi c0_i32_1115 v1209
  v1210.toNat
def k0_dev11 (d0 : Dev nD) : Nat :=
  let c0_i32_1125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1124 : BitVec 32 := 1#32
  let v1213 : BitVec 32 := Scalar.muli v7 c1_i32_1124
  let v1214 : BitVec 32 := Scalar.addi c0_i32_1125 v1213
  v1214.toNat
def k0_dev12 (d0 : Dev nD) : Nat :=
  let c0_i32_1137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1136 : BitVec 32 := 1#32
  let v1223 : BitVec 32 := Scalar.muli v5 c1_i32_1136
  let v1224 : BitVec 32 := Scalar.addi c0_i32_1137 v1223
  v1224.toNat
def k0_dev13 (d0 : Dev nD) : Nat :=
  let c0_i32_1492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1491 : BitVec 32 := 1#32
  let v1613 : BitVec 32 := Scalar.muli v5 c1_i32_1491
  let v1614 : BitVec 32 := Scalar.addi c0_i32_1492 v1613
  v1614.toNat
def k0_dev14 (d0 : Dev nD) : Nat :=
  let c0_i32_1495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1494 : BitVec 32 := 1#32
  let v1615 : BitVec 32 := Scalar.muli v7 c1_i32_1494
  let v1616 : BitVec 32 := Scalar.addi c0_i32_1495 v1615
  v1616.toNat
def k0_dev15 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_348 : BitVec 32 := 1#32
  let v316 : BitVec 32 := Scalar.muli v7 c1_i32_348
  let v317 : BitVec 32 := Scalar.addi c0_i32_349 v316
  v317.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x8192x512 : Shape := ⟨3, ![2, 8192, 512]⟩
abbrev S512x8192 : Shape := ⟨2, ![512, 8192]⟩
abbrev S2x256x8192 : Shape := ⟨3, ![2, 256, 8192]⟩
abbrev S8192x512 : Shape := ⟨2, ![8192, 512]⟩
abbrev S2x256x128x64 : Shape := ⟨4, ![2, 256, 128, 64]⟩
abbrev S2x8192x8192 : Shape := ⟨3, ![2, 8192, 8192]⟩
abbrev S2x8192x128x64 : Shape := ⟨4, ![2, 8192, 128, 64]⟩
abbrev S8192 : Shape := ⟨1, ![8192]⟩
abbrev S_ : Shape := ⟨0, ![]⟩
abbrev S8192x1 : Shape := ⟨2, ![8192, 1]⟩
abbrev S256 : Shape := ⟨1, ![256]⟩
abbrev S1x256 : Shape := ⟨2, ![1, 256]⟩
abbrev S8192x256 : Shape := ⟨2, ![8192, 256]⟩
abbrev S2x128x8192x256 : Shape := ⟨4, ![2, 128, 8192, 256]⟩
abbrev S1x1x8192x256 : Shape := ⟨4, ![1, 1, 8192, 256]⟩
abbrev S2x128x8192 : Shape := ⟨3, ![2, 128, 8192]⟩
abbrev S2x128x8192x1 : Shape := ⟨4, ![2, 128, 8192, 1]⟩
abbrev S1x1x8192x1 : Shape := ⟨4, ![1, 1, 8192, 1]⟩
abbrev S2x128x64x8192 : Shape := ⟨4, ![2, 128, 64, 8192]⟩

abbrev nBuf : Space → Nat
  | .hbm => 144
  | .vmem => 0
  | .smem => 0
  | _ => 0

abbrev hbmTy0_0 (i : Nat) : BufTy := match i % 128 with
  | 0 => ⟨S2x8192x512, .bf16⟩
  | 1 => ⟨S512x8192, .bf16⟩
  | 2 => ⟨S2x256x8192, .bf16⟩
  | 3 => ⟨S2x256x8192, .bf16⟩
  | 4 => ⟨S8192x512, .bf16⟩
  | 5 => ⟨S2x256x8192, .f32⟩
  | 6 => ⟨S2x256x128x64, .f32⟩
  | 7 => ⟨S2x256x8192, .f32⟩
  | 8 => ⟨S2x256x128x64, .f32⟩
  | 9 => ⟨S2x8192x512, .f32⟩
  | 10 => ⟨S512x8192, .f32⟩
  | 11 => ⟨S2x8192x8192, .f32⟩
  | 12 => ⟨S2x8192x128x64, .f32⟩
  | 13 => ⟨S8192, .i32⟩
  | 14 => ⟨S_, .i32⟩
  | 15 => ⟨S_, .i32⟩
  | 16 => ⟨S8192, .i32⟩
  | 17 => ⟨S8192, .i32⟩
  | 18 => ⟨S8192, .i32⟩
  | 19 => ⟨S_, .i32⟩
  | 20 => ⟨S8192, .i32⟩
  | 21 => ⟨S8192, .i1⟩
  | 22 => ⟨S8192, .i32⟩
  | 23 => ⟨S8192, .i32⟩
  | 24 => ⟨S_, .i32⟩
  | 25 => ⟨S8192, .i32⟩
  | 26 => ⟨S8192, .i1⟩
  | 27 => ⟨S8192, .i1⟩
  | 28 => ⟨S_, .i32⟩
  | 29 => ⟨S8192, .i32⟩
  | 30 => ⟨S8192, .i32⟩
  | 31 => ⟨S8192, .i32⟩
  | 32 => ⟨S8192x1, .i32⟩
  | 33 => ⟨S256, .i32⟩
  | 34 => ⟨S_, .i32⟩
  | 35 => ⟨S_, .i32⟩
  | 36 => ⟨S256, .i32⟩
  | 37 => ⟨S256, .i32⟩
  | 38 => ⟨S256, .i32⟩
  | 39 => ⟨S_, .i32⟩
  | 40 => ⟨S256, .i32⟩
  | 41 => ⟨S256, .i1⟩
  | 42 => ⟨S256, .i32⟩
  | 43 => ⟨S256, .i32⟩
  | 44 => ⟨S_, .i32⟩
  | 45 => ⟨S256, .i32⟩
  | 46 => ⟨S256, .i1⟩
  | 47 => ⟨S256, .i1⟩
  | 48 => ⟨S_, .i32⟩
  | 49 => ⟨S256, .i32⟩
  | 50 => ⟨S256, .i32⟩
  | 51 => ⟨S256, .i32⟩
  | 52 => ⟨S1x256, .i32⟩
  | 53 => ⟨S8192x256, .i32⟩
  | 54 => ⟨S8192x256, .i32⟩
  | 55 => ⟨S8192x256, .i1⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S1x256, .i32⟩
  | 63 => ⟨S1x256, .i32⟩
  | 64 => ⟨S_, .i32⟩
  | 65 => ⟨S1x256, .i32⟩
  | 66 => ⟨S1x256, .i1⟩
  | 67 => ⟨S_, .i32⟩
  | 68 => ⟨S1x256, .i32⟩
  | 69 => ⟨S1x256, .i1⟩
  | 70 => ⟨S_, .i32⟩
  | 71 => ⟨S_, .i1⟩
  | 72 => ⟨S1x256, .i1⟩
  | 73 => ⟨S1x256, .i1⟩
  | 74 => ⟨S1x256, .i1⟩
  | 75 => ⟨S1x256, .i32⟩
  | 76 => ⟨S1x256, .i32⟩
  | 77 => ⟨S1x256, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S8192x1, .i32⟩
  | 85 => ⟨S8192x1, .i32⟩
  | 86 => ⟨S_, .i32⟩
  | 87 => ⟨S8192x1, .i32⟩
  | 88 => ⟨S8192x1, .i1⟩
  | 89 => ⟨S_, .i32⟩
  | 90 => ⟨S8192x1, .i32⟩
  | 91 => ⟨S8192x1, .i1⟩
  | 92 => ⟨S_, .i32⟩
  | 93 => ⟨S_, .i1⟩
  | 94 => ⟨S8192x1, .i1⟩
  | 95 => ⟨S8192x1, .i1⟩
  | 96 => ⟨S8192x1, .i1⟩
  | 97 => ⟨S8192x1, .i32⟩
  | 98 => ⟨S8192x1, .i32⟩
  | 99 => ⟨S8192x1, .i32⟩
  | 100 => ⟨S8192x256, .i32⟩
  | 101 => ⟨S8192x256, .i32⟩
  | 102 => ⟨S8192x256, .i1⟩
  | 103 => ⟨S8192x256, .i1⟩
  | 104 => ⟨S2x128x8192x256, .f32⟩
  | 105 => ⟨S_, .f32⟩
  | 106 => ⟨S2x128x8192x256, .f32⟩
  | 107 => ⟨S2x128x8192x256, .f32⟩
  | 108 => ⟨S1x1x8192x256, .i1⟩
  | 109 => ⟨S_, .f32⟩
  | 110 => ⟨S_, .f32⟩
  | 111 => ⟨S2x128x8192x256, .i1⟩
  | 112 => ⟨S2x128x8192x256, .f32⟩
  | 113 => ⟨S2x128x8192x256, .f32⟩
  | 114 => ⟨S_, .f32⟩
  | 115 => ⟨S2x128x8192, .f32⟩
  | 116 => ⟨S2x128x8192x1, .f32⟩
  | 117 => ⟨S2x128x8192x256, .f32⟩
  | 118 => ⟨S2x128x8192x256, .f32⟩
  | 119 => ⟨S2x128x8192x256, .f32⟩
  | 120 => ⟨S_, .i1⟩
  | 121 => ⟨S8192, .i1⟩
  | 122 => ⟨S1x1x8192x1, .i1⟩
  | 123 => ⟨S_, .f32⟩
  | 124 => ⟨S2x128x8192, .f32⟩
  | 125 => ⟨S2x128x8192x1, .f32⟩
  | 126 => ⟨S_, .f32⟩
  | 127 => ⟨S_, .f32⟩
  | _ => ⟨S2x8192x512, .bf16⟩

abbrev hbmTy0_1 (i : Nat) : BufTy := match i % 128 with
  | 0 => ⟨S2x128x8192x1, .i1⟩
  | 1 => ⟨S2x128x8192x1, .f32⟩
  | 2 => ⟨S2x128x8192x1, .f32⟩
  | 3 => ⟨S2x128x8192x256, .f32⟩
  | 4 => ⟨S2x128x8192x256, .f32⟩
  | 5 => ⟨S1x1x8192x1, .i1⟩
  | 6 => ⟨S_, .f32⟩
  | 7 => ⟨S_, .f32⟩
  | 8 => ⟨S2x128x8192x256, .i1⟩
  | 9 => ⟨S2x128x8192x256, .f32⟩
  | 10 => ⟨S2x128x8192x256, .f32⟩
  | 11 => ⟨S2x128x64x8192, .f32⟩
  | 12 => ⟨S2x8192x128x64, .f32⟩
  | 13 => ⟨S2x8192x8192, .f32⟩
  | 14 => ⟨S8192x512, .f32⟩
  | 15 => ⟨S2x8192x512, .f32⟩
  | _ => ⟨S2x8192x512, .bf16⟩

abbrev hbmTy (i : Nat) : BufTy := match i / 128 with
  | 0 => hbmTy0_0 i
  | 1 => hbmTy0_1 i
  | _ => ⟨S2x8192x512, .bf16⟩

abbrev bufTy : (tb : Table) → Fin (tcTables nBuf tb) → BufTy
  | .hbm, ⟨i, _⟩ => hbmTy i
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_c_1 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v17 : Ref sig .tc := ⟨.hbm, 77, rfl⟩
abbrev main_c_2 : Ref sig .tc := ⟨.hbm, 78, rfl⟩
abbrev main_call3_v0 : Ref sig .tc := ⟨.hbm, 79, rfl⟩
abbrev main_call3_c : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_c_1 : Ref sig .tc := ⟨.hbm, 86, rfl⟩
abbrev main_call3_v5 : Ref sig .tc := ⟨.hbm, 87, rfl⟩
abbrev main_call3_v6 : Ref sig .tc := ⟨.hbm, 88, rfl⟩
abbrev main_call3_c_2 : Ref sig .tc := ⟨.hbm, 89, rfl⟩
abbrev main_call3_v7 : Ref sig .tc := ⟨.hbm, 90, rfl⟩
abbrev main_call3_v8 : Ref sig .tc := ⟨.hbm, 91, rfl⟩
abbrev main_call3_c_3 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_cst : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_cst_3 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v27 : Ref sig .tc := ⟨.hbm, 113, rfl⟩
abbrev main_cst_4 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_c_5 : Ref sig .tc := ⟨.hbm, 120, rfl⟩
abbrev main_v33 : Ref sig .tc := ⟨.hbm, 121, rfl⟩
abbrev main_v34 : Ref sig .tc := ⟨.hbm, 122, rfl⟩
abbrev main_cst_6 : Ref sig .tc := ⟨.hbm, 123, rfl⟩
abbrev main_v35 : Ref sig .tc := ⟨.hbm, 124, rfl⟩
abbrev main_v36 : Ref sig .tc := ⟨.hbm, 125, rfl⟩
abbrev main_cst_7 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_cst_8 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩

abbrev nD : Nat := 1
abbrev τ : Topo := Topo.v7x

variable {F : FTy → Type} [FloatOps F]
-- ==== Proof.Prog.lean ====
/- The kernel's body written as a short list of named stages: the barrier, the copies to the two neighbours and their
   waits, the prefetch of a head block's keys and values and its wait, and the computation of one chunk. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Attn

open Cert.KernelIdeal.Gen
open Idealize.ShloMosaic Idealize.SL.Sem

variable {F : FTy → Type} [FloatOps F]

/-- The programs of the kernel's core. -/
abbrev P (F : FTy → Type) (α : Type) := Prog (TpuEff nD τ sig (Elt F) Λ₀ .tc) α

/-! ## The buffers and semaphores -/

abbrev xM : Memref sig .tc .vmem S2x256x512 .bf16 := Memref.whole cc0_stg0_0
abbrev wqM : Memref sig .tc .vmem S512x256 .bf16 := Memref.whole cc0_stg1_0
abbrev kM : Memref sig .tc .vmem S2x256x8192 .bf16 := Memref.whole cc0_stg2_0
abbrev vM : Memref sig .tc .vmem S2x256x8192 .bf16 := Memref.whole cc0_stg3_0
abbrev woM : Memref sig .tc .vmem S256x512 .bf16 := Memref.whole cc0_stg4_0
abbrev outM : Memref sig .tc .vmem S2x256x512 .f32 := Memref.whole cc0_stg5_0
abbrev cfM : Memref sig .tc .vmem S2x2x256x512 .bf16 := Memref.whole cc0_scratch0
abbrev cbM : Memref sig .tc .vmem S2x2x256x512 .bf16 := Memref.whole cc0_scratch1
abbrev kvM : Memref sig .tc .vmem S2x2x2x2x256x256 .bf16 := Memref.whole cc0_scratch2
abbrev ctxM : Memref sig .tc .vmem S512x256 .bf16 := Memref.whole cc0_scratch3

/-- The two communication buffers: `true` is the forward one, `false` the backward one. -/
def cM : Bool → Memref sig .tc .vmem S2x2x256x512 .bf16 := fun b => if b then cfM else cbM
theorem cM_whole : ∀ b, (cM b).IsWhole := fun b => by cases b <;> exact Memref.isWhole_whole _

/-- The send and receive semaphores of the two directions. -/
def sendSems : Bool → DmaSems sig S2 := fun b => if b then cc0_scratch4 else cc0_scratch6
def recvSems : Bool → DmaSems sig S2 := fun b => if b then cc0_scratch5 else cc0_scratch7

theorem sem_inb : ∀ (j : Fin 2) (a : Fin 1), (![j.val] : Fin 1 → ℕ) a + S1.size a ≤ S2.size a := by decide
theorem kvsem_inb : ∀ (p s : Fin 2) (a : Fin 2), (![p.val, s.val] : Fin 2 → ℕ) a + S1x1.size a ≤ S2x2.size a := by decide

/-- One semaphore of a pair. -/
def semAt (A : DmaSems sig S2) (j : Fin 2) : DmaSem sig :=
  ((A.slice (Rect.unit (s := S2) ![j.val] S1.size (sem_inb j))).squeeze S_ squeezes_S1_S_).sem
/-- The semaphore of the key and value copies of parity `p` and stream `s`. -/
def kvSem (p s : Fin 2) : DmaSem sig :=
  ((cc0_scratch8.slice (Rect.unit (s := S2x2) ![p.val, s.val] S1x1.size (kvsem_inb p s))).squeeze S_ squeezes_S1x1_S_).sem
/-- The barrier's semaphore. -/
def barSem : Sem sig := (SemArray.scalar (sig.barrier 0 rfl) : Sems sig S_).sem

/-! ## The views -/

theorem slot_inb : ∀ (j : Fin 2) (a : Fin 4), (![j.val, 0, 0, 0] : Fin 4 → ℕ) a + S1x2x256x512.size a ≤ S2x2x256x512.size a := by decide
theorem slot_words : ∀ j : Fin 2, (Rect.unit (s := S2x2x256x512) ![j.val, 0, 0, 0] S1x2x256x512.size (slot_inb j)).WholeWords (EltTy.packing .bf16)
  | 0 => wordsbf16_S2x2x256x512_S1x2x256x512_0_0_0_0
  | 1 => wordsbf16_S2x2x256x512_S1x2x256x512_1_0_0_0
theorem half_inb : ∀ (j i : Fin 2) (a : Fin 4), (![j.val, i.val, 0, 0] : Fin 4 → ℕ) a + S1x1x256x512.size a ≤ S2x2x256x512.size a := by decide
theorem half_packed : ∀ i : Fin 2, (Rect.unit (s := S2x2x256x512) ![0, i.val, 0, 0] S1x1x256x512.size (half_inb 0 i)).PackedRows (EltTy.packing .bf16)
  | 0 => packedbf16_S2x2x256x512_S1x1x256x512_0_0_0_0
  | 1 => packedbf16_S2x2x256x512_S1x1x256x512_0_1_0_0

/-- Slot `j` of a communication buffer: a chunk. -/
abbrev slotM (b : Bool) (j : Fin 2) : Memref sig .tc .vmem S2x256x512 .bf16 :=
  ((cM b).slice (Rect.unit (s := S2x2x256x512) ![j.val, 0, 0, 0] S1x2x256x512.size (slot_inb j)) (fun _ => rfl)).squeeze S2x256x512 squeezes_S1x2x256x512_S2x256x512
theorem slotM_words (b : Bool) (j : Fin 2) : (slotM b j).view.WordExact :=
  ((cM_whole b).wordExact_slice rfl _ (slot_words j)).reshape _ _

theorem piece_inb : ∀ (p s i b : Fin 2) (a : Fin 6), (![p.val, s.val, i.val, b.val, 0, 0] : Fin 6 → ℕ) a + S1x1x1x1x256x256.size a ≤ S2x2x2x2x256x256.size a := by decide
theorem piece_words : ∀ p s i b : Fin 2, (Rect.unit (s := S2x2x2x2x256x256) ![p.val, s.val, i.val, b.val, 0, 0] S1x1x1x1x256x256.size (piece_inb p s i b)).WholeWords (EltTy.packing .bf16) := by decide
theorem pair_inb : ∀ (p s i : Fin 2) (a : Fin 6), (![p.val, s.val, i.val, 0, 0, 0] : Fin 6 → ℕ) a + S1x1x1x2x256x256.size a ≤ S2x2x2x2x256x256.size a := by decide

/-- The destination of one key or value copy. -/
abbrev pieceM (p s i b : Fin 2) : Memref sig .tc .vmem S256x256 .bf16 :=
  (kvM.slice (Rect.unit (s := S2x2x2x2x256x256) ![p.val, s.val, i.val, b.val, 0, 0] S1x1x1x1x256x256.size (piece_inb p s i b)) (fun _ => rfl)).squeeze S256x256 squeezes_S1x1x1x1x256x256_S256x256
theorem pieceM_words (p s i b : Fin 2) : (pieceM p s i b).view.WordExact :=
  ((Memref.isWhole_whole _).wordExact_slice rfl _ (piece_words p s i b)).reshape _ _

/-- The keys (0) and the values (1). -/
def kvIn : Fin 2 → Memref sig .tc .vmem S2x256x8192 .bf16 := ![kM, vM]
theorem kvIn_whole : ∀ i, (kvIn i).IsWhole := fun | 0 => Memref.isWhole_whole _ | 1 => Memref.isWhole_whole _

/-- Where the two batches' columns of a head block begin in the keys and the values. -/
@[ext] structure KvOff where
  o : Fin 2 → Fin 3 → ℕ
  inb : ∀ b a, o b a + S1x256x256.size a ≤ S2x256x8192.size a
  words : ∀ b, (Rect.unit (s := S2x256x8192) (o b) S1x256x256.size (inb b)).WholeWords (EltTy.packing .bf16)

/-- The source of one key or value copy. -/
abbrev colM (i : Fin 2) (k : KvOff) (b : Fin 2) : Memref sig .tc .vmem S256x256 .bf16 :=
  ((kvIn i).slice (Rect.unit (s := S2x256x8192) (k.o b) S1x256x256.size (k.inb b)) (fun _ => rfl)).squeeze S256x256 squeezes_S1x256x256_S256x256
theorem colM_words (i : Fin 2) (k : KvOff) (b : Fin 2) : (colM i k b).view.WordExact :=
  ((kvIn_whole i).wordExact_slice rfl _ (k.words b)).reshape _ _

/-! ## The stages -/

/-- The barrier with the two neighbours. -/
def barrier (l r : Dev nD) (k : P F PUnit) : P F PUnit :=
  .op (.semSignal (l, .tc) barSem ((1 : ℕ) : ℤ)) fun _ => .op (.semSignal (r, .tc) barSem ((1 : ℕ) : ℤ)) fun _ => .op (.semWait barSem 2) fun _ => k

/-- A copy of slot `j` of buffer `b` to slot `j'` of buffer `b'` of device `d`. -/
def send (d : Dev nD) (b : Bool) (j : Fin 2) (b' : Bool) (j' : Fin 2) (k : P F PUnit) : P F PUnit :=
  .op (.enqueueDma (slotM b j) (.remote (Dev.tc d) (slotM b' j') (.dma (semAt (sendSems b') j))) (.dma (semAt (recvSems b') j'))
    (slotM_words b j) (slotM_words b' j') ⟨⟨rfl, Or.inl rfl⟩, trivial⟩) fun _ => k

/-- The wait for one side of a copy between slots. -/
def waitSlot (s : DmaSem sig) (b : Bool) (j : Fin 2) (b' : Bool) (j' : Fin 2) (k : P F PUnit) : P F PUnit :=
  .op (.waitDma2 s (slotM b j) (slotM b' j') (slotM_words b j) (slotM_words b' j')) fun _ => k

/-- One key or value copy. -/
def kvCopy (p s i b : Fin 2) (o : KvOff) (k : P F PUnit) : P F PUnit :=
  .op (.enqueueDma (colM i o b) (.here (pieceM p s i b)) (.dma (kvSem p s)) (colM_words i o b) (pieceM_words p s i b) ⟨Or.inl rfl, trivial⟩) fun _ => k
/-- The four copies of a head block's keys and values. -/
def kvPre (p s : Fin 2) (o : KvOff) (k : P F PUnit) : P F PUnit :=
  kvCopy p s 0 0 o (kvCopy p s 0 1 o (kvCopy p s 1 0 o (kvCopy p s 1 1 o k)))
/-- The wait for one key or value copy. -/
def kvWait1 (p s i b : Fin 2) (o : KvOff) (k : P F PUnit) : P F PUnit :=
  .op (.waitDma2 (kvSem p s) (colM i o b) (pieceM p s i b) (colM_words i o b) (pieceM_words p s i b)) fun _ => k
/-- The four waits. -/
def kvWait (p s : Fin 2) (o : KvOff) (k : P F PUnit) : P F PUnit :=
  kvWait1 p s 0 0 o (kvWait1 p s 0 1 o (kvWait1 p s 1 0 o (kvWait1 p s 1 1 o k)))

theorem head_slices : ∀ h : Fin 4, S512x256.Slices ![0, 64 * h.val] S512x64
  | 0 => slices_S512x256_o0_0_S512x64 | 1 => slices_S512x256_o0_64_S512x64 | 2 => slices_S512x256_o0_128_S512x64 | 3 => slices_S512x256_o0_192_S512x64
theorem head_slices' : ∀ h : Fin 4, S2x256x256.Slices ![0, 0, 64 * h.val] S2x256x64
  | 0 => slices_S2x256x256_o0_0_0_S2x256x64 | 1 => slices_S2x256x256_o0_0_64_S2x256x64 | 2 => slices_S2x256x256_o0_0_128_S2x256x64 | 3 => slices_S2x256x256_o0_0_192_S2x256x64
theorem head_inb : ∀ (h : Fin 4) (a : Fin 2), (![0, 64 * h.val] : Fin 2 → ℕ) a + S512x64.size a ≤ S512x256.size a := by decide
theorem head_packed : ∀ h : Fin 4, (Rect.unit (s := S512x256) ![0, 64 * h.val] S512x64.size (head_inb h)).PackedRows (EltTy.packing .bf16)
  | 0 => packedbf16_S512x256_S512x64_0_0 | 1 => packedbf16_S512x256_S512x64_0_64 | 2 => packedbf16_S512x256_S512x64_0_128 | 3 => packedbf16_S512x256_S512x64_0_192

/-- One head's scores, exponentials and normalised weights over the selected keys. -/
def headS (h : Fin 4) (q : FVec F S512x256 .bf16) (k : FVec F S2x256x256 .bf16) : FVec F S8x64x64 .f32 :=
  matmul dot_S8x64x64_S8x64x64_S8x64x64_2_2_1_1_0_0 none
    (shapeCast S8x64x64 (extractStridedSlice S512x64 ![0, 64 * h.val] q (head_slices h)) shapeCasts_S512x64_S8x64x64)
    (shapeCast S8x64x64 (extractStridedSlice S2x256x64 ![0, 0, 64 * h.val] k (head_slices' h)) shapeCasts_S2x256x64_S8x64x64)
    (constant S8x64x64 .f32 0x00000000#32)
def headE (s : FVec F S8x64x64 .f32) : FVec F S8x64x64 .f32 :=
  exp (subf s (broadcastTo S8x64x64 (shapeCast S8x64x1 (multiReduction .maximumf [2] S8x64 s 0xFF800000#32 reduces_S8x64x64_S8x64 (.inl rfl) rfl) shapeCasts_S8x64_S8x64x1) broadcasts_S8x64x1_S8x64x64))
def headP (e : FVec F S8x64x64 .f32) : FVec F S8x64x64 .bf16 :=
  truncf .bf16 (divf e (broadcastTo S8x64x64 (shapeCast S8x64x1 (multiReduction .add [2] S8x64 e 0x00000000#32 reduces_S8x64x64_S8x64 (.inl rfl) rfl) shapeCasts_S8x64_S8x64x1) broadcasts_S8x64x1_S8x64x64)) bitsLt_bf16_f32
/-- One head's context rows. -/
def headC (h : Fin 4) (q : FVec F S512x256 .bf16) (k v : FVec F S2x256x256 .bf16) : FVec F S512x64 .bf16 :=
  shapeCast S512x64 (truncf .bf16 (shapeCast S512x64
    (matmul dot_S8x64x64_S8x64x64_S8x64x64_2_1_1_2_0_0 none (headP (headE (headS h q k)))
      (shapeCast S8x64x64 (extractStridedSlice S2x256x64 ![0, 0, 64 * h.val] v (head_slices' h)) shapeCasts_S2x256x64_S8x64x64)
      (constant S8x64x64 .f32 0x00000000#32)) shapeCasts_S8x64x64_S512x64) bitsLt_bf16_f32) shapeCasts_S512x64_S512x64

/-- The store of one head's context rows (with the printed read of what it replaces). -/
def headStore (h : Fin 4) (w : FVec F S512x64 .bf16) (k : P F PUnit) : P F PUnit :=
  .op (.load ctxM (Rect.unit (s := S512x256) ![0, 64 * h.val] S512x64.size (head_inb h)).toLoadRect (View.loadsAt_vmem h_S512x64)) fun _ =>
  .op (.store ctxM (Rect.unit (s := S512x256) ![0, 64 * h.val] S512x64.size (head_inb h)) w Finset.univ
    (View.stores_vmem h_S512x64 ((Memref.isWhole_whole _).storeExact_slice rfl _ (head_packed h)) (fun _ => rfl)) (.inl rfl)) fun _ => k

/-- The accumulation of a chunk's contribution. -/
def accum (wo : Vec F S1x1x256x512 .bf16) (k : P F PUnit) : P F PUnit :=
  .op (.load outM (Rect.unit (s := S2x256x512) ![0, 0, 0] S2x256x512.size inb_S2x256x512_S2x256x512_0_0_0).toLoadRect (View.loadsAt_vmem h_S2x256x512)) fun (o : Vec F S2x256x512 .f32) =>
  .op (.load ctxM (Rect.unit (s := S512x256) ![0, 0] S512x256.size inb_S512x256_S512x256_0_0).toLoadRect (View.loadsAt_vmem h_S512x256)) fun (c : Vec F S512x256 .bf16) =>
  .op (.load outM (Rect.unit (s := S2x256x512) ![0, 0, 0] S2x256x512.size inb_S2x256x512_S2x256x512_0_0_0).toLoadRect (View.loadsAt_vmem h_S2x256x512)) fun _ =>
  .op (.store outM (Rect.unit (s := S2x256x512) ![0, 0, 0] S2x256x512.size inb_S2x256x512_S2x256x512_0_0_0) (k0_pay12 (k0_pay2 wo) o c) Finset.univ
    (View.stores_vmem_bits_univ h_S2x256x512 rfl) (.inl rfl)) fun _ => k

/-- The computation of the chunk in slot `j` of buffer `b`, with the keys and values of parity `p` and stream `s`. -/
def chunk (b : Bool) (j p s : Fin 2) (k : P F PUnit) : P F PUnit :=
  .op (.load (cM b) (Rect.unit (s := S2x2x256x512) ![j.val, 0, 0, 0] S1x1x256x512.size (half_inb j 0)).toLoadRect (View.loadsAt_vmem h_S1x1x256x512)) fun (wq : Vec F S1x1x256x512 .bf16) =>
  .op (.load (cM b) (Rect.unit (s := S2x2x256x512) ![j.val, 1, 0, 0] S1x1x256x512.size (half_inb j 1)).toLoadRect (View.loadsAt_vmem h_S1x1x256x512)) fun (wo : Vec F S1x1x256x512 .bf16) =>
  .op (.load xM (Rect.unit (s := S2x256x512) ![0, 0, 0] S2x256x512.size inb_S2x256x512_S2x256x512_0_0_0).toLoadRect (View.loadsAt_vmem h_S2x256x512)) fun (x : Vec F S2x256x512 .bf16) =>
  .op (.load kvM (Rect.unit (s := S2x2x2x2x256x256) ![p.val, s.val, 0, 0, 0, 0] S1x1x1x2x256x256.size (pair_inb p s 0)).toLoadRect (View.loadsAt_vmem h_S1x1x1x2x256x256)) fun (kk : Vec F S1x1x1x2x256x256 .bf16) =>
  .op (.load kvM (Rect.unit (s := S2x2x2x2x256x256) ![p.val, s.val, 1, 0, 0, 0] S1x1x1x2x256x256.size (pair_inb p s 1)).toLoadRect (View.loadsAt_vmem h_S1x1x1x2x256x256)) fun (vv : Vec F S1x1x1x2x256x256 .bf16) =>
  headStore 0 (headC 0 (k0_pay3 wq x) (k0_pay4 kk) (k0_pay4 vv)) <|
  headStore 1 (headC 1 (k0_pay3 wq x) (k0_pay4 kk) (k0_pay4 vv)) <|
  headStore 2 (headC 2 (k0_pay3 wq x) (k0_pay4 kk) (k0_pay4 vv)) <|
  headStore 3 (headC 3 (k0_pay3 wq x) (k0_pay4 kk) (k0_pay4 vv)) <|
  accum wo k

/-- The store of one half of the device's own chunk. -/
def ownStore (i : Fin 2) (w : FVec F S1x1x256x512 .bf16) (k : P F PUnit) : P F PUnit :=
  .op (.load cfM (Rect.unit (s := S2x2x256x512) ![0, i.val, 0, 0] S1x1x256x512.size (half_inb 0 i)).toLoadRect (View.loadsAt_vmem h_S1x1x256x512)) fun _ =>
  .op (.store cfM (Rect.unit (s := S2x2x256x512) ![0, i.val, 0, 0] S1x1x256x512.size (half_inb 0 i)) w Finset.univ
    (View.stores_vmem h_S1x1x256x512 ((Memref.isWhole_whole _).storeExact_slice rfl _ (half_packed i)) (fun _ => rfl)) (.inl rfl)) fun _ => k

/-- The stores at the head: the device's own chunk, and the accumulator at zero. -/
def start (k : P F PUnit) : P F PUnit :=
  .op (.load wqM (Rect.unit (s := S512x256) ![0, 0] S512x256.size inb_S512x256_S512x256_0_0).toLoadRect (View.loadsAt_vmem h_S512x256)) fun (wq : Vec F S512x256 .bf16) =>
  ownStore 0 (k0_pay53 wq) <|
  .op (.load woM (Rect.unit (s := S256x512) ![0, 0] S256x512.size inb_S256x512_S256x512_0_0).toLoadRect (View.loadsAt_vmem h_S256x512)) fun (wo : Vec F S256x512 .bf16) =>
  ownStore 1 (k0_pay54 wo) <|
  .op (.load outM (Rect.unit (s := S2x256x512) ![0, 0, 0] S2x256x512.size inb_S2x256x512_S2x256x512_0_0_0).toLoadRect (View.loadsAt_vmem h_S2x256x512)) fun _ =>
  .op (.store outM (Rect.unit (s := S2x256x512) ![0, 0, 0] S2x256x512.size inb_S2x256x512_S2x256x512_0_0_0) k0_pay55 Finset.univ
    (View.stores_vmem_bits_univ h_S2x256x512 rfl) (.inl rfl)) fun _ => k

/-! ## The offsets and the neighbours in closed form -/

theorem kvOff_inb (h : Fin 32) : ∀ (b : Fin 2) (a : Fin 3), (![b.val, 0, 256 * h.val] : Fin 3 → ℕ) a + S1x256x256.size a ≤ S2x256x8192.size a := by
  revert h; decide
theorem kvOff_words (h : Fin 32) : ∀ b : Fin 2, (Rect.unit (s := S2x256x8192) ![b.val, 0, 256 * h.val] S1x256x256.size (kvOff_inb h b)).WholeWords (EltTy.packing .bf16) := by
  revert h; decide +kernel
/-- Head block `h`'s columns. -/
def kvOff (h : Fin 32) : KvOff := ⟨fun b => ![b.val, 0, 256 * h.val], kvOff_inb h, kvOff_words h⟩

/-- The right and the left neighbour, and the devices `n` places away on either side. -/
def up (c : Fin 32) (n : ℕ) : Fin 32 := ⟨(c.val + n) % 32, Nat.mod_lt _ (by decide)⟩
def dn (c : Fin 32) (n : ℕ) : Fin 32 := ⟨(c.val + (32 - n % 32)) % 32, Nat.mod_lt _ (by decide)⟩
abbrev nxt (c : Dev nD) : Dev nD := up c 1
abbrev prv (c : Dev nD) : Dev nD := dn c 1

theorem KvOff.eq_kvOff {o : KvOff} {h : Fin 32} (e : ∀ b, o.o b = ![b.val, 0, 256 * h.val]) : o = kvOff h :=
  KvOff.ext (funext e)

end Cert.KernelIdeal.Attn

end
-- ==== Proof.Cont.lean ====
/- The contents of the buffers: what a device is given, the chunk of the projections that travels, the keys and values of
   a head block, and what one chunk adds to the result. -/
module

public import proofs.«01_k».proof.Proof.Prog
public import Idealize.ShloMosaic.Lib.ViewIndex
public import Idealize.ShloMosaic.Lib.Pipeline.Value
public import Idealize.ShloMosaic.Lib.Pointwise.Reshape

@[expose] public section

noncomputable section

namespace Cert.KernelIdeal.Attn

open Cert.KernelIdeal.Gen
open Idealize.ShloMosaic Idealize.SL.Sem

variable {F : FTy → Type} [FloatOps F]

/-- What the devices are given: queries' rows, columns of the query projection, keys, values, rows of the output projection. -/
structure Ins (F : FTy → Type) where
  x : Dev nD → S2x256x512.Idx → Elt F .bf16
  wq : Dev nD → S512x256.Idx → Elt F .bf16
  k : Dev nD → S2x256x8192.Idx → Elt F .bf16
  v : Dev nD → S2x256x8192.Idx → Elt F .bf16
  wo : Dev nD → S256x512.Idx → Elt F .bf16

variable (I : Ins F)

/-- Multi-indices of rank two and three from their coordinates. -/
def ix2 {a b : ℕ} (i : Fin a) (j : Fin b) : (⟨2, ![a, b]⟩ : Shape).Idx := fun | 0 => i | 1 => j
def ix4 {a b d e : ℕ} (i : Fin a) (j : Fin b) (k : Fin d) (l : Fin e) : (⟨4, ![a, b, d, e]⟩ : Shape).Idx := fun | 0 => i | 1 => j | 2 => k | 3 => l
def ix6 {a b d e g h : ℕ} (i : Fin a) (j : Fin b) (k : Fin d) (l : Fin e) (m : Fin g) (n : Fin h) : (⟨6, ![a, b, d, e, g, h]⟩ : Shape).Idx :=
  fun | 0 => i | 1 => j | 2 => k | 3 => l | 4 => m | 5 => n
def ix3 {a b d : ℕ} (i : Fin a) (j : Fin b) (k : Fin d) : (⟨3, ![a, b, d]⟩ : Shape).Idx := fun | 0 => i | 1 => j | 2 => k

/-- Column `j` of head block `h` among all the columns of the keys and the values. -/
def colOf (h : Fin 32) (j : Fin 256) : Fin 8192 := ⟨256 * h.val + j.val, by omega⟩

/-! ## A communication buffer -/

/-- Device `d`'s chunk in every slot of a communication buffer: the transposed columns of its query projection, the rows
    of its output projection. -/
def comW (d : Dev nD) : S2x2x256x512.Idx → Elt F .bf16 := fun y =>
  if (y 1).val = 0 then I.wq d (ix2 (y 3) (y 2)) else I.wo d (ix2 (y 2) (y 3))

/-- The two halves, as the kernel reads them. -/
def wqH (d : Dev nD) : Vec F S1x1x256x512 .bf16 := fun y => I.wq d (ix2 (y 3) (y 2))
def woH (d : Dev nD) : Vec F S1x1x256x512 .bf16 := fun y => I.wo d (ix2 (y 2) (y 3))

/-- Contents of a communication buffer, by the buffer. -/
def comB : (b : Bool) → (S2x2x256x512.Idx → Elt F .bf16) → (cM b).view.ty.Contents (Elt F)
  | true, w => w
  | false, w => w
theorem read_comB (b : Bool) (w : S2x2x256x512.Idx → Elt F .bf16) : (cM b).view.read (Elt F) (comB b w) = w := by
  cases b <;> rfl

/-- The buffer's contents with device `d`'s chunk. -/
def comC (b : Bool) (d : Dev nD) : (cM b).view.ty.Contents (Elt F) := comB b (comW I d)

/-! ## The key and value scratch -/

/-- Head block `h`'s keys and values in every part of the scratch. -/
def kvW (c : Dev nD) (h : Fin 32) : S2x2x2x2x256x256.Idx → Elt F .bf16 := fun y =>
  if (y 2).val = 0 then I.k c (ix3 (y 3) (y 4) (colOf h (y 5))) else I.v c (ix3 (y 3) (y 4) (colOf h (y 5)))
def kkH (c : Dev nD) (h : Fin 32) : Vec F S1x1x1x2x256x256 .bf16 := fun y => I.k c (ix3 (y 3) (y 4) (colOf h (y 5)))
def vvH (c : Dev nD) (h : Fin 32) : Vec F S1x1x1x2x256x256 .bf16 := fun y => I.v c (ix3 (y 3) (y 4) (colOf h (y 5)))
/-- The keys (0) and the values (1) of a device. -/
def kvG (c : Dev nD) : (i : Fin 2) → (kvIn i).view.ty.Contents (Elt F)
  | 0 => I.k c
  | 1 => I.v c

/-! ## The result -/

/-- The context rows from the four heads. -/
def ctxW (f : Fin 4 → FVec F S512x64 .bf16) : S512x256.Idx → Elt F .bf16 := fun y =>
  f ⟨(y 1).val / 64, by have h : (y 1).val < 256 := (y 1).isLt; omega⟩ (ix2 (y 0) ⟨(y 1).val % 64, Nat.mod_lt _ (by decide)⟩)

/-- The context rows of device `c`'s queries on device `d`'s heads. -/
def ctxOf (c d : Dev nD) : S512x256.Idx → Elt F .bf16 :=
  ctxW fun h => headC h (k0_pay3 (wqH I d) (I.x c)) (k0_pay4 (kkH I c d)) (k0_pay4 (vvH I c d))

/-- The accumulator with device `d`'s heads added. -/
def acc (c d : Dev nD) (o : S2x256x512.Idx → Elt F .f32) : S2x256x512.Idx → Elt F .f32 := k0_pay12 (k0_pay2 (woH I d)) o (ctxOf I c d)

/-- The accumulator after step `n`: the device's own heads, then those of the devices on either side in turn. -/
def outN (c : Dev nD) : ℕ → S2x256x512.Idx → Elt F .f32
  | 0 => acc I c (dn c 0) k0_pay55
  | n + 1 => acc I c (up c (n + 1)) (acc I c (dn c (n + 1)) (outN c n))
/-- The result. -/
def outF (c : Dev nD) : S2x256x512.Idx → Elt F .f32 := acc I c (dn c 16) (outN I c 15)

/-! ## Reading the buffers through the kernel's views -/

/-- A slot reads the buffer at the slot's number and its own coordinates. -/
theorem read_slot (b : Bool) (j : Fin 2) (x : S2x256x512.Idx) :
    ∃ y : S2x2x256x512.Idx, (∀ f, (slotM b j).view.read (Elt F) f x = (cM b).view.read (Elt F) f y) ∧ (y 0).val = j.val ∧ y 1 = x 0 ∧ y 2 = x 1 ∧ y 3 = x 2 := by
  refine ⟨(Rect.unit (s := S2x2x256x512) ![j.val, 0, 0, 0] S1x2x256x512.size (slot_inb j)).emb (Shape.reshapeEquiv (s' := S2x256x512) (s := S1x2x256x512) (by decide) x), fun f => rfl, ?_⟩
  have e : Shape.reshapeEquiv (s' := S2x256x512) (s := S1x2x256x512) (by decide) x = Fin.cons ⟨0, Nat.one_pos⟩ x := Shape.reshapeEquiv_cons_one (by decide) x
  rw [e]
  refine ⟨?_, ?_, ?_, ?_⟩
  · simp [Rect.emb, Rect.unit]; rfl
  · exact Fin.ext (by simp [Rect.emb, Rect.unit]; rfl)
  · exact Fin.ext (by simp [Rect.emb, Rect.unit]; rfl)
  · exact Fin.ext (by simp [Rect.emb, Rect.unit]; rfl)

/-- Device `d`'s chunk. -/
def slotW (d : Dev nD) : S2x256x512.Idx → Elt F .bf16 := fun x =>
  if (x 0).val = 0 then I.wq d (ix2 (x 2) (x 1)) else I.wo d (ix2 (x 1) (x 2))

theorem read_comC (b : Bool) (j : Fin 2) (d : Dev nD) : (slotM b j).view.read (Elt F) (comC I b d) = slotW I d := by
  funext x
  obtain ⟨y, hy, -, h1, h2, h3⟩ := read_slot (F := F) b j x
  rw [hy, comC, read_comB, comW, slotW, h1, h2, h3]

/-- A copy of the chunk lands as the chunk. -/
theorem landed (b b' : Bool) (j j' : Fin 2) (d : Dev nD) (fd : (slotM b' j').view.ty.Contents (Elt F)) :
    ∀ i ∈ (slotM b' j').view.set, (slotM b' j').view.write (Elt F) fd ((slotM b j).view.read (Elt F) (comC I b d)) Finset.univ i = comC I b' d i := by
  intro i hi
  obtain ⟨x, -, rfl⟩ := Finset.mem_map.mp hi
  exact View.eq_of_read_eq (by rw [View.read_write_of_mem _ _ (Finset.mem_univ x), read_comC, read_comC])

/-- The part of a communication buffer under one half of a slot. -/
abbrev halfR (j i : Fin 2) : Rect S2x2x256x512 := Rect.unit (s := S2x2x256x512) ![j.val, i.val, 0, 0] S1x1x256x512.size (half_inb j i)

theorem half_sub (b : Bool) (j i : Fin 2) : (cM b).view.setOn (halfR j i).set ⊆ (slotM b j).view.set := by
  rw [show (slotM b j).view.set = (cM b).view.setOn (Rect.unit (s := S2x2x256x512) ![j.val, 0, 0, 0] S1x2x256x512.size (slot_inb j)).set from
    ((View.set_reshape _ _).trans (View.set_slice _ _))]
  refine Finset.map_subset_map.mpr fun y hy => ?_
  rw [Rect.mem_set_unit] at hy ⊢
  intro a
  have h := hy a
  fin_cases a
  · exact h
  · have : (y 1).val < 2 := (y 1).isLt
    exact ⟨Nat.zero_le _, this⟩
  · exact h
  · exact h

theorem half_read0 (b : Bool) (j : Fin 2) (d : Dev nD) : (cM b).view.readAt (Elt F) (halfR j 0).toLoadRect (comC I b d) = wqH I d := by
  funext y
  rw [View.readAt_apply, comC, read_comB]
  have h0 : (y 0).val < 1 := (y 0).isLt
  have h1 : (y 1).val < 1 := (y 1).isLt
  show (if (0 + 1 * (y 1).val) = 0 then _ else _) = _
  rw [if_pos (by omega), wqH]
  congr 1
  funext a
  fin_cases a <;> exact Fin.ext (by simp [ix2, LoadRect.idx, Rect.unit])
theorem half_read1 (b : Bool) (j : Fin 2) (d : Dev nD) : (cM b).view.readAt (Elt F) (halfR j 1).toLoadRect (comC I b d) = woH I d := by
  funext y
  rw [View.readAt_apply, comC, read_comB]
  show (if (1 + 1 * (y 1).val) = 0 then _ else _) = _
  rw [if_neg (by omega), woH]
  congr 1
  funext a
  fin_cases a <;> exact Fin.ext (by simp [ix2, LoadRect.idx, Rect.unit])

theorem pay53_apply (w : Vec F S512x256 .bf16) (y : S1x1x256x512.Idx) : k0_pay53 w y = w (ix2 (y 3) (y 2)) := by
  show shapeCast S1x1x256x512 (transpose S256x512 [1, 0] (shapeCast S512x256 w _) _) _ y = _
  have h0 : (y 0).val < 1 := (y 0).isLt
  have h1 : (y 1).val < 1 := (y 1).isLt
  refine (shapeCast_apply _ _ y (ix2 (y 2) (y 3)) ?_).trans ((transpose_apply [1, 0] _ _ (ix2 (y 2) (y 3)) (ix2 (y 3) (y 2)) ?_).trans (congrFun (shapeCast_self _ _) _))
  · rw [rowMajor_val2 _ 512 rfl, rowMajor_val4 _ 131072 131072 512 rfl rfl rfl]
    simp only [ix2]; omega
  · intro b; fin_cases b <;> rfl
theorem pay54_apply (w : Vec F S256x512 .bf16) (y : S1x1x256x512.Idx) : k0_pay54 w y = w (ix2 (y 2) (y 3)) := by
  show shapeCast S1x1x256x512 (shapeCast S256x512 w _) _ y = _
  have h0 : (y 0).val < 1 := (y 0).isLt
  have h1 : (y 1).val < 1 := (y 1).isLt
  refine (shapeCast_apply _ _ y (ix2 (y 2) (y 3)) ?_).trans (congrFun (shapeCast_self _ _) _)
  rw [rowMajor_val2 _ 512 rfl, rowMajor_val4 _ 131072 131072 512 rfl rfl rfl]
  simp only [ix2]; omega

/-- The two stores of the device's own chunk. -/
theorem own_stored (d : Dev nD) (f : cfM.view.ty.Contents (Elt F)) :
    ∀ i ∈ (slotM true 0).view.set,
      (cfM.access (halfR 0 1)).write (Elt F) ((cfM.access (halfR 0 0)).write (Elt F) f (k0_pay53 (I.wq d)) Finset.univ) (k0_pay54 (I.wo d)) Finset.univ i
        = comC I true d i := by
  intro i hi
  obtain ⟨x, -, rfl⟩ := Finset.mem_map.mp hi
  obtain ⟨y, hy, h0, h1, h2, h3⟩ := read_slot (F := F) true 0 x
  refine View.eq_of_read_eq (v := (slotM true 0).view) ((hy _).trans (Eq.trans ?_ (congrFun (read_comC I true 0 d) x).symm))
  rw [slotW, ← h1, ← h2, ← h3]
  have hi2 : (y 1).val < 2 := (y 1).isLt
  by_cases hc : (y 1).val = 0
  · rw [if_pos hc]
    refine (View.read_slice_write_of_not_mem (v := cfM.view) (halfR 0 1) _ _ _ (y := y) ?_).trans ?_
    · rw [Rect.map_emb_univ, Rect.mem_set_unit]; intro hm; have := (hm 1).1; simp at this; omega
    have hz : y = (halfR 0 0).emb (ix4 0 0 (y 2) (y 3)) := by
      funext a; fin_cases a <;> refine Fin.ext ?_ <;> simp [Rect.emb, Rect.unit, ix4] <;> omega
    rw [hz, View.read_slice_write_emb (v := cfM.view) (halfR 0 0) _ _ (Finset.mem_univ _), pay53_apply, ← hz]
    rfl
  · rw [if_neg hc]
    have hz : y = (halfR 0 1).emb (ix4 0 0 (y 2) (y 3)) := by
      funext a; fin_cases a <;> refine Fin.ext ?_ <;> simp [Rect.emb, Rect.unit, ix4] <;> omega
    rw [hz]
    refine (View.read_slice_write_emb (v := cfM.view) (halfR 0 1) _ _ (Finset.mem_univ _)).trans ?_
    rw [pay54_apply, ← hz]
    rfl

/-! ## The key and value scratch -/

/-- The columns a key or value copy reads. -/
theorem read_piece (p s i b : Fin 2) (x : S256x256.Idx) :
    ∃ y : S2x2x2x2x256x256.Idx, (∀ f, (pieceM p s i b).view.read (Elt F) f x = kvM.view.read (Elt F) f y) ∧ y 2 = i ∧ y 3 = b ∧ y 4 = x 0 ∧ y 5 = x 1 := by
  refine ⟨(Rect.unit (s := S2x2x2x2x256x256) ![p.val, s.val, i.val, b.val, 0, 0] S1x1x1x1x256x256.size (piece_inb p s i b)).emb
    (Shape.reshapeEquiv (s' := S256x256) (s := S1x1x1x1x256x256) (by decide) x), fun f => rfl, ?_⟩
  have e : Shape.reshapeEquiv (s' := S256x256) (s := S1x1x1x1x256x256) (by decide) x = ix6 (a := 1) (b := 1) (d := 1) (e := 1) (g := 256) (h := 256) 0 0 0 0 (x 0) (x 1) :=
    Shape.reshapeEquiv_eq_of_rowMajor _ (by
      rw [rowMajor_val2 _ 256 rfl, rowMajor_val6 _ 65536 65536 65536 65536 256 rfl rfl rfl rfl rfl]; simp [ix6])
  rw [e]
  refine ⟨?_, ?_, ?_, ?_⟩ <;> exact Fin.ext (by simp [Rect.emb, Rect.unit, ix6])

theorem read_col (i : Fin 2) (h : Fin 32) (b : Fin 2) (x : S256x256.Idx) :
    ∃ y : S2x256x8192.Idx, (∀ f, (colM i (kvOff h) b).view.read (Elt F) f x = (kvIn i).view.read (Elt F) f y) ∧ y = ix3 b (x 0) (colOf h (x 1)) := by
  refine ⟨(Rect.unit (s := S2x256x8192) ((kvOff h).o b) S1x256x256.size ((kvOff h).inb b)).emb
    (Shape.reshapeEquiv (s' := S256x256) (s := S1x256x256) (by decide) x), fun f => rfl, ?_⟩
  have e : Shape.reshapeEquiv (s' := S256x256) (s := S1x256x256) (by decide) x = ix3 (a := 1) (b := 256) (d := 256) 0 (x 0) (x 1) :=
    Shape.reshapeEquiv_eq_of_rowMajor _ (by
      rw [rowMajor_val2 _ 256 rfl, rowMajor_val3 _ 65536 256 rfl rfl]; simp [ix3])
  rw [e]
  funext a; fin_cases a <;> exact Fin.ext (by simp [Rect.emb, Rect.unit, ix3, kvOff, colOf])
theorem read_kvG (c : Dev nD) (i : Fin 2) (y : S2x256x8192.Idx) :
    (kvIn i).view.read (Elt F) (kvG I c i) y = if i.val = 0 then I.k c y else I.v c y := by
  match i with
  | 0 => rfl
  | 1 => rfl

theorem kv_landed (c : Dev nD) (p s i b : Fin 2) (h : Fin 32) (fd : (pieceM p s i b).view.ty.Contents (Elt F)) :
    ∀ e ∈ (pieceM p s i b).view.set, (pieceM p s i b).view.write (Elt F) fd ((colM i (kvOff h) b).view.read (Elt F) (kvG I c i)) Finset.univ e = kvW I c h e := by
  intro e he
  obtain ⟨x, -, rfl⟩ := Finset.mem_map.mp he
  refine View.eq_of_read_eq (v := (pieceM p s i b).view) ?_
  obtain ⟨y, hy, h2, h3, h4, h5⟩ := read_piece (F := F) p s i b x
  obtain ⟨z, hz, ez⟩ := read_col (F := F) i h b x
  rw [View.read_write_of_mem _ _ (Finset.mem_univ x), hz, hy, read_kvG, ez]
  show _ = kvW I c h y
  rw [kvW, h2, h3, h4, h5]
  rfl

abbrev pairR (p s i : Fin 2) : Rect S2x2x2x2x256x256 := Rect.unit (s := S2x2x2x2x256x256) ![p.val, s.val, i.val, 0, 0, 0] S1x1x1x2x256x256.size (pair_inb p s i)

theorem piece_set (p s i b : Fin 2) : (pieceM p s i b).view.set
    = kvM.view.setOn (Rect.unit (s := S2x2x2x2x256x256) ![p.val, s.val, i.val, b.val, 0, 0] S1x1x1x1x256x256.size (piece_inb p s i b)).set :=
  (View.set_reshape _ _).trans (View.set_slice _ _)

theorem pair_set (p s i : Fin 2) : kvM.view.setOn (pairR p s i).set ⊆ (pieceM p s i 0).view.set ∪ (pieceM p s i 1).view.set := by
  rw [piece_set, piece_set]
  show Finset.map _ _ ⊆ Finset.map _ _ ∪ Finset.map _ _
  rw [← Finset.map_union]
  refine Finset.map_subset_map.mpr fun y hy => ?_
  rw [Finset.mem_union, Rect.mem_set_unit, Rect.mem_set_unit]
  rw [Rect.mem_set_unit] at hy
  have h3 : (y 3).val < 2 := (y 3).isLt
  have H := fun a => hy a
  rcases (by omega : (y 3).val = 0 ∨ (y 3).val = 1) with e | e
  · refine .inl fun a => ?_
    have h := H a
    fin_cases a <;> first | exact h | exact ⟨by simp, by show (y 3).val < 0 + 1; omega⟩
  · refine .inr fun a => ?_
    have h := H a
    fin_cases a <;> first | exact h | exact ⟨by show 1 ≤ (y 3).val; omega, by show (y 3).val < 1 + 1; omega⟩
theorem piece_disj (p s i : Fin 2) : Disjoint (pieceM p s i 0).view.set (pieceM p s i 1).view.set := by
  rw [piece_set, piece_set]
  refine (Finset.disjoint_map _).mpr (Finset.disjoint_left.mpr fun y h h' => ?_)
  rw [Rect.mem_set_unit] at h h'
  have h1 := (h 3).2
  have h2 := (h' 3).1
  have h1' : (y 3).val < 0 + 1 := h1
  have h2' : 1 ≤ (y 3).val := h2
  omega
theorem pair_read0 (p s : Fin 2) (c : Dev nD) (h : Fin 32) : kvM.view.readAt (Elt F) (pairR p s 0).toLoadRect (kvW I c h) = kkH I c h := by
  funext y
  rw [View.readAt_apply]
  have h2 : (y 2).val < 1 := (y 2).isLt
  show (if (0 + 1 * (y 2).val) = 0 then _ else _) = _
  rw [if_pos (by omega), kkH]
  congr 1
  funext a
  fin_cases a
  · exact Fin.ext (show 0 + 1 * (y 3).val = (y 3).val by omega)
  · exact Fin.ext (show 0 + 1 * (y 4).val = (y 4).val by omega)
  · exact Fin.ext (show 256 * h.val + (0 + 1 * (y 5).val) = 256 * h.val + (y 5).val by omega)
theorem pair_read1 (p s : Fin 2) (c : Dev nD) (h : Fin 32) : kvM.view.readAt (Elt F) (pairR p s 1).toLoadRect (kvW I c h) = vvH I c h := by
  funext y
  rw [View.readAt_apply]
  show (if (1 + 1 * (y 2).val) = 0 then _ else _) = _
  rw [if_neg (by omega), vvH]
  congr 1
  funext a
  fin_cases a
  · exact Fin.ext (show 0 + 1 * (y 3).val = (y 3).val by omega)
  · exact Fin.ext (show 0 + 1 * (y 4).val = (y 4).val by omega)
  · exact Fin.ext (show 256 * h.val + (0 + 1 * (y 5).val) = 256 * h.val + (y 5).val by omega)

/-! ## The context scratch -/

abbrev headR (h : Fin 4) : Rect S512x256 := Rect.unit (s := S512x256) ![0, 64 * h.val] S512x64.size (head_inb h)

theorem ctx_stored (f : ctxM.view.ty.Contents (Elt F)) (w : Fin 4 → FVec F S512x64 .bf16) :
    (ctxM.access (headR 3)).write (Elt F) ((ctxM.access (headR 2)).write (Elt F) ((ctxM.access (headR 1)).write (Elt F)
      ((ctxM.access (headR 0)).write (Elt F) f (w 0) Finset.univ) (w 1) Finset.univ) (w 2) Finset.univ) (w 3) Finset.univ = ctxW w := by
  funext y
  have key : ∀ g : ctxM.view.ty.Contents (Elt F), g y = ctxM.view.read (Elt F) g y := fun _ => rfl
  refine (key _).trans ?_
  rw [ctxW]
  have hy : (y 1).val < 256 := (y 1).isLt
  obtain ⟨q, hq⟩ : ∃ q, (y 1).val / 64 = q := ⟨_, rfl⟩
  have fin : ∀ (r : Fin 4), r.val = q → ∀ h4, w r = w ⟨(y 1).val / 64, h4⟩ := fun r e h4 => congrArg w (Fin.ext (e.trans hq.symm))
  have hq4 : q < 4 := by omega
  have hit : ∀ (h : Fin 4) (g : ctxM.view.ty.Contents (Elt F)), h.val = q →
      ctxM.view.read (Elt F) ((ctxM.access (headR h)).write (Elt F) g (w h) Finset.univ) y = w h (ix2 (y 0) ⟨(y 1).val % 64, Nat.mod_lt _ (by decide)⟩) := by
    intro h g e
    have hz : y = (headR h).emb (ix2 (y 0) ⟨(y 1).val % 64, Nat.mod_lt _ (by decide)⟩) := by
      funext a
      fin_cases a <;> refine Fin.ext ?_
      · simp [Rect.emb, Rect.unit, ix2]
      · show (y 1).val = 64 * h.val + 1 * ((y 1).val % 64); omega
    refine (congrArg _ hz).trans ?_
    exact View.read_slice_write_emb (v := ctxM.view) (headR h) _ _ (Finset.mem_univ _)
  have miss : ∀ (h : Fin 4) (g : ctxM.view.ty.Contents (Elt F)), h.val ≠ q →
      ctxM.view.read (Elt F) ((ctxM.access (headR h)).write (Elt F) g (w h) Finset.univ) y = ctxM.view.read (Elt F) g y := by
    intro h g e
    refine View.read_slice_write_of_not_mem (v := ctxM.view) (headR h) _ _ _ ?_
    rw [Rect.map_emb_univ, Rect.mem_set_unit]
    intro hm
    have h1 : 64 * h.val ≤ (y 1).val := (hm 1).1
    have h2 : (y 1).val < 64 * h.val + 64 := (hm 1).2
    omega
  rcases (by omega : q = 0 ∨ q = 1 ∨ q = 2 ∨ q = 3) with rfl | rfl | rfl | rfl
  · rw [miss 3 _ (by decide), miss 2 _ (by decide), miss 1 _ (by decide), hit 0 _ rfl, fin 0 rfl]
  · rw [miss 3 _ (by decide), miss 2 _ (by decide), hit 1 _ rfl, fin 1 rfl]
  · rw [miss 3 _ (by decide), hit 2 _ rfl, fin 2 rfl]
  · rw [hit 3 _ rfl, fin 3 rfl]

end Cert.KernelIdeal.Attn

end
-- ==== Proof.Sched.lean ====
/- The ring's protocol: the cells, the duties of each round with what they hand over, and what a device owes. -/
module

public import proofs.«01_k».proof.Proof.Cont
public import Idealize.ShloMosaic.Lib.Rounds
public import Idealize.ShloMosaic.Lib.Batch
public import Idealize.ShloMosaic.Lib.Tactic
public import Idealize.ShloMosaic.Lib.Pipeline.Launch

@[expose] public section

noncomputable section

namespace Cert.KernelIdeal.Attn

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × (UB × Counters)
abbrev MM (F : FTy → Type) : Type := MT nD τ sig ℕ (Elt F) ℕ UU ℕ

abbrev EP : Emb (UR sig nD τ) (MM F) := embL
def ER : Emb UB (MM F) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB (MM F)).LandsIn (upEmb : UEmb _ (MM F)) := by unfold ER; infer_instance
def EC : UEmb Counters (MM F) :=
  ((UEmb.inr : UEmb Counters (UB × Counters)).trans (UEmb.inr : UEmb (UB × Counters) UU)).trans uEmb
instance EC_landsIn : (EC : UEmb Counters (MM F)).LandsIn (upEmb : UEmb _ (MM F)) := by unfold EC; infer_instance

/-! ## The cells -/

/-- The semaphores the devices share: the barrier's, and the two sides of the copies of either direction by slot. -/
inductive CK where
  | bar
  | send (b : Bool) (j : Fin 2)
  | recv (b : Bool) (j : Fin 2)
  deriving DecidableEq

def ckAll : List CK := [.bar, .send true 0, .send true 1, .send false 0, .send false 1, .recv true 0, .recv true 1, .recv false 0, .recv false 1]
instance : Fintype CK where
  elems := ⟨ckAll, by decide⟩
  complete
    | .bar => by decide
    | .send true 0 => by decide | .send true 1 => by decide | .send false 0 => by decide | .send false 1 => by decide
    | .recv true 0 => by decide | .recv true 1 => by decide | .recv false 0 => by decide | .recv false 1 => by decide

def csem : CK → SemLoc sig
  | .bar => .reg barSem
  | .send b j => .dma (semAt (sendSems b) j)
  | .recv b j => .dma (semAt (recvSems b) j)

def ckOf : SemLoc sig → Option CK
  | .reg s => if s = barSem then some .bar else none
  | .dma q => match q.val with
    | 6 => some (.send true 0) | 7 => some (.send true 1)
    | 8 => some (.recv true 0) | 9 => some (.recv true 1)
    | 10 => some (.send false 0) | 11 => some (.send false 1)
    | 12 => some (.recv false 0) | 13 => some (.recv false 1)
    | _ => none

theorem ckOf_csem : ∀ k, ckOf (csem k) = some k
  | .bar => by simp [ckOf, csem]
  | .send true 0 => rfl | .send true 1 => rfl | .send false 0 => rfl | .send false 1 => rfl
  | .recv true 0 => rfl | .recv true 1 => rfl | .recv false 0 => rfl | .recv false 1 => rfl

abbrev cell (c : Dev nD) (k : CK) : GSem nD τ sig := ((c : Thread nD τ), csem k)

theorem csem_inj : Function.Injective csem := fun a b h => by
  have := congrArg ckOf h; rw [ckOf_csem, ckOf_csem] at this; exact Option.some.inj this
theorem cell_inj {c c' : Dev nD} {k k' : CK} (h : cell c k = cell c' k') : c = c' ∧ k = k' :=
  ⟨congrArg (fun g => g.1.1) h, csem_inj (congrArg (fun g => g.2) h)⟩

/-- The units one copy of a chunk is worth. -/
def NC : ℕ := (slotM true 0).view.dmaCredit
theorem NC_pos : 0 < NC := View.dmaCredit_pos _ (by decide)
theorem credit_slot (b : Bool) (j : Fin 2) : (slotM b j).view.dmaCredit = NC := by cases b <;> rfl

/-! ## What the rounds hand over -/

variable (I : Ins F)

/-- A share of slot `j` of a communication buffer of device `c`, holding device `d`'s chunk. -/
def holds (c : Dev nD) (b : Bool) (j : Fin 2) (q : PosShare TreeShare) (d : Dev nD) : sProp (MM F) :=
  (slotM b j).view.loc (c : Thread nD τ) ↦[(slotM b j).view.set]{q} comC I b d
/-- A slot with any contents. -/
def free (c : Dev nD) (b : Bool) (j : Fin 2) : sProp (MM F) :=
  iprop(∃ f : (slotM b j).view.ty.Contents (Elt F), (slotM b j).view.loc (c : Thread nD τ) ↦[(slotM b j).view.set]{fullShare} f)

/-- The device whose chunk a device computes with at a step, by direction. -/
def chunkAt (b : Bool) (c : Dev nD) (t : ℕ) : Dev nD := if b then dn c t else up c t
/-- The device a direction's copies go to, and the one they come from. -/
def tgt (b : Bool) (c : Dev nD) : Dev nD := if b then nxt c else prv c
def frm (b : Bool) (c : Dev nD) : Dev nD := if b then prv c else nxt c
theorem tgt_frm (b : Bool) (c : Dev nD) : tgt b (frm b c) = c := by
  cases b <;> refine Fin.ext ?_ <;> simp only [tgt, frm, up, dn] <;> simp <;> have : c.val < 32 := c.isLt <;> omega
theorem frm_tgt (b : Bool) (c : Dev nD) : frm b (tgt b c) = c := by
  cases b <;> refine Fin.ext ?_ <;> simp only [tgt, frm, up, dn] <;> simp <;> have : c.val < 32 := c.isLt <;> omega
theorem frm_eq (b : Bool) (c : Dev nD) : frm b c = tgt (!b) c := by cases b <;> rfl

/-- The slot of a step's source, and of its destination. -/
def sl (t : ℕ) : Fin 2 := ⟨t % 2, Nat.mod_lt _ (by decide)⟩
/-- The number of steps that copy, by direction. -/
def lim (b : Bool) : ℕ := if b then 16 else 15

/-- The step whose copy a round of a send or a receive cell is. -/
def stepS (j : Fin 2) (r : ℕ) : ℕ := 2 * r + j.val
def stepR (j : Fin 2) (r : ℕ) : ℕ := 2 * r + (1 - j.val)

/-- What the neighbour whose signal is duty `d` hands over in round `r`: its slot for the copy of step `r`. -/
def barPay (c : Dev nD) (r : ℕ) (d : Bool) : sProp (MM F) :=
  if r < lim d then iprop(free (tgt d c) d (sl (r + 1)) ∗ reached ER (cell (tgt d c) (.recv d (sl (r + 1)))) (r / 2)) else iprop(emp)
/-- The share of the source a copy borrows: the first backward copy reads the same slot as the first forward one. -/
def sendPay (c : Dev nD) (b : Bool) (t : ℕ) : sProp (MM F) :=
  if b = false ∧ t = 0 then holds I c true 0 fullShare.right.left (chunkAt true c 0) else holds I c b (sl t) fullShare.left (chunkAt b c t)
/-- What a copy delivers: the chunk, and that its sender has passed the barrier before it. -/
def recvPay (c : Dev nD) (b : Bool) (t : ℕ) : sProp (MM F) :=
  iprop(holds I c b (sl (t + 1)) fullShare (chunkAt b c (t + 1)) ∗ reached ER (cell (frm b c) .bar) (t + 1))

def kdut : CK → ℕ → Finset Bool
  | .bar, r => if r < 16 then Finset.univ else ∅
  | .send b j, r => if stepS j r < lim b then {true} else ∅
  | .recv b j, r => if stepR j r < lim b then {true} else ∅
def kamt : CK → ℕ
  | .bar => 1
  | _ => NC
def kpay (c : Dev nD) : CK → ℕ → Bool → sProp (MM F)
  | .bar, r, d => barPay c r d
  | .send b j, r, _ => sendPay I c b (stepS j r)
  | .recv b j, r, _ => recvPay I c b (stepR j r)

/-- The schedule. -/
def Rd : Rounds.Schedule (GSem nD τ sig) Bool (MM F) where
  duties g r := (ckOf g.2).elim ∅ (kdut · r)
  unitless _ := False
  amount g _ _ := (ckOf g.2).elim 1 kamt
  payload g r d := match ckOf g.2 with
    | some k => kpay I g.1.1 k r d
    | none => iprop(emp)
  amount_pos g _ _ _ := by
    rcases ckOf g.2 with _ | k
    · exact Nat.one_pos
    · cases k <;> first | exact Nat.one_pos | exact NC_pos

instance holds_storable (c : Dev nD) (b : Bool) (j : Fin 2) (q : PosShare TreeShare) (d : Dev nD) : BI.Storable (upEmb : UEmb _ (MM F)) (holds I c b j q d) := by
  unfold holds; infer_instance
omit [FloatOps F] in
instance free_storable (c : Dev nD) (b : Bool) (j : Fin 2) : BI.Storable (upEmb : UEmb _ (MM F)) (free (F := F) c b j) := by
  unfold free; infer_instance
instance kpay_storable (c : Dev nD) (k : CK) (r : ℕ) (d : Bool) : BI.Storable (upEmb : UEmb _ (MM F)) (kpay I c k r d) := by
  cases k <;> simp only [kpay, barPay, sendPay, recvPay] <;> (repeat' split) <;> infer_instance
instance Rd_storable (g : GSem nD τ sig) (r : ℕ) (d : Bool) : BI.Storable (upEmb : UEmb _ (MM F)) ((Rd I).payload g r d) := by
  show BI.Storable upEmb (match ckOf g.2 with | some k => kpay I g.1.1 k r d | none => iprop(emp))
  split <;> infer_instance

theorem duties_cell (c : Dev nD) (k : CK) (r : ℕ) : (Rd I).duties (cell c k) r = kdut k r := by
  dsimp only [Rd]; rw [ckOf_csem]; rfl
theorem amount_cell (c : Dev nD) (k : CK) (r : ℕ) (d : Bool) : (Rd I).amount (cell c k) r d = kamt k := by
  dsimp only [Rd]; rw [ckOf_csem]; rfl
theorem payload_cell (c : Dev nD) (k : CK) (r : ℕ) (d : Bool) : (Rd I).payload (cell c k) r d = kpay I c k r d := by
  dsimp only [Rd]; rw [ckOf_csem]
theorem expect_bar (c : Dev nD) (r : ℕ) (h : r < 16) : (Rd I).expect (cell c .bar) r = 2 := by
  unfold Schedule.expect Schedule.amountOf
  rw [duties_cell, Finset.sum_congr rfl fun d _ => amount_cell I c .bar r d]
  simp [kdut, h, kamt]
theorem expect_dma (c : Dev nD) (k : CK) (r : ℕ) (h : kdut k r = {true}) (hk : kamt k = NC) : (Rd I).expect (cell c k) r = NC := by
  unfold Schedule.expect Schedule.amountOf
  rw [duties_cell, h, Finset.sum_singleton, amount_cell, hk]
theorem dut_send (b : Bool) (t : ℕ) (h : t < lim b) : kdut (.send b (sl t)) (t / 2) = {true} := by
  have : stepS (sl t) (t / 2) = t := by simp only [stepS, sl]; omega
  simp only [kdut, this, h, if_true]
theorem dut_recv (b : Bool) (t : ℕ) (h : t < lim b) : kdut (.recv b (sl (t + 1))) (t / 2) = {true} := by
  have : stepR (sl (t + 1)) (t / 2) = t := by simp only [stepR, sl]; omega
  simp only [kdut, this, h, if_true]
theorem pay_send (c : Dev nD) (b : Bool) (t : ℕ) (d : Bool) : kpay I c (.send b (sl t)) (t / 2) d = sendPay I c b t := by
  have : stepS (sl t) (t / 2) = t := by simp only [stepS, sl]; omega
  simp only [kpay, this]
theorem pay_recv (c : Dev nD) (b : Bool) (t : ℕ) (d : Bool) : kpay I c (.recv b (sl (t + 1))) (t / 2) d = recvPay I c b t := by
  have : stepR (sl (t + 1)) (t / 2) = t := by simp only [stepR, sl]; omega
  simp only [kpay, this]
/-- The rounds a send or a receive cell has when all is over. -/
def lastR : CK → ℕ
  | .bar => 16
  | .send b j => (lim b + 1 - j.val) / 2
  | .recv b j => (lim b + j.val) / 2
theorem duties_later (c : Dev nD) (k : CK) : ∀ r ≥ lastR k, (Rd I).duties (cell c k) r = ∅ := by
  intro r hr
  rw [duties_cell]
  cases k with
  | bar => simp only [lastR] at hr; simp only [kdut]; rw [if_neg (by omega)]
  | send b j => simp only [lastR] at hr; simp only [kdut]; rw [if_neg]; simp only [stepS]; have := j.isLt; omega
  | recv b j => simp only [lastR] at hr; simp only [kdut]; rw [if_neg]; simp only [stepR]; have := j.isLt; omega

/-! ## What a device owes, and the levels -/

abbrev Tal : Type := CellTallies nD τ sig ℕ

/-- The two signals of the barrier's round `r`, and the credit of a copy at step `t`. -/
def owB (c : Dev nD) (b : Bool) (r : ℕ) : Tal := tallyAt (cell (frm b c) .bar) (2 * r + 1) 1
def owX (c : Dev nD) (b : Bool) (t : ℕ) : Tal := if t < lim b then tallyAt (cell (tgt b c) (.recv b (sl (t + 1)))) (2 * t + 2) NC else 0
/-- What is owed after round `r` of the barrier. -/
def owes' (c : Dev nD) (r : ℕ) : Tal :=
  (∑ t ∈ Finset.Ico r 16, (owX c true t + owX c false t)) + ∑ t ∈ Finset.Ico (r + 1) 16, (owB c true t + owB c false t)
/-- What is owed at launch. -/
def owes0 (c : Dev nD) : Tal := owes' c 0 + (owB c true 0 + owB c false 0)

def LL (g : GSem nD τ sig) : Finset ℕ := if g.1.2 = .tc then Finset.range 64 else ∅
def lv (_ : GSem nD τ sig) (ι : ℕ) : ℕ := ι

/-- Every obligation lies at a core's cell and above the level `n`. -/
def Above (n : ℕ) (O : Tal) : Prop := ∀ g ι, 0 < O g ι → g.1.2 = .tc ∧ n < ι ∧ ι < 64

theorem Above.zero (n : ℕ) : Above n 0 := fun g ι h => absurd h (Nat.lt_irrefl 0)
theorem Above.add {n : ℕ} {O O' : Tal} (h : Above n O) (h' : Above n O') : Above n (O + O') := fun g ι hp => by
  rw [Pi.add_apply, Finsupp.add_apply] at hp
  rcases Nat.eq_zero_or_pos (O g ι) with h0 | h0
  · exact h' g ι (by omega)
  · exact h g ι h0
theorem Above.sum {n : ℕ} {A : Type} (s : Finset A) {f : A → Tal} (h : ∀ a ∈ s, Above n (f a)) : Above n (∑ a ∈ s, f a) := by
  classical
  induction s using Finset.induction_on with
  | empty => exact Above.zero n
  | insert a s ha ih =>
    rw [Finset.sum_insert ha]
    exact (h a (Finset.mem_insert_self _ _)).add (ih fun x hx => h x (Finset.mem_insert_of_mem hx))
theorem Above.tally {n : ℕ} (c : Dev nD) (k : CK) (ι v : ℕ) (h : n < ι) (h' : ι < 64) : Above n (tallyAt (cell c k) ι v) := fun g ι' hp => by
  rw [tallyAt_apply] at hp
  by_cases e : g = cell c k ∧ ι' = ι
  · rw [e.1, e.2]; exact ⟨rfl, h, h'⟩
  · rw [if_neg e] at hp; exact absurd hp (Nat.lt_irrefl 0)
theorem Above.owB {n : ℕ} (c : Dev nD) (b : Bool) (r : ℕ) (h : n ≤ 2 * r) (hr : r < 31) : Above n (owB c b r) := Above.tally _ _ _ _ (by omega) (by omega)
theorem Above.owX {n : ℕ} (c : Dev nD) (b : Bool) (t : ℕ) (h : n ≤ 2 * t + 1) (hr : t < 30) : Above n (owX c b t) := by
  unfold Attn.owX; split
  · exact Above.tally _ _ _ _ (by omega) (by omega)
  · exact Above.zero n
theorem Above.mono {n m : ℕ} {O : Tal} (h : Above n O) (hm : m ≤ n) : Above m O := fun g ι hp => ⟨(h g ι hp).1, by have := (h g ι hp).2.1; omega, (h g ι hp).2.2⟩
theorem Above.owes' (c : Dev nD) (r : ℕ) : Above (2 * r + 1) (owes' c r) :=
  (Above.sum _ fun t ht => by
    have := Finset.mem_Ico.mp ht
    exact (Above.owX _ _ _ (by omega) (by omega)).add (Above.owX _ _ _ (by omega) (by omega))).add
  (Above.sum _ fun t ht => by
    have := Finset.mem_Ico.mp ht
    exact (Above.owB _ _ _ (by omega) (by omega)).add (Above.owB _ _ _ (by omega) (by omega)))
theorem Above.owes0 (c : Dev nD) : Above 0 (owes0 c) :=
  ((Above.owes' c 0).mono (by omega)).add ((Above.owB _ _ _ (by omega) (by omega)).add (Above.owB _ _ _ (by omega) (by omega)))

omit [FloatOps F] in
/-- A wait is allowed below everything that is owed. -/
theorem mayWait (c : Dev nD) (sm : SemLoc sig) (n : ℕ) (hn : n < 64) {O : Tal} (h : Above n O) :
    (levAts LL lv : sProp (MM F)) ⊢ MayWait (c : Thread nD τ) sm n O :=
  MayOwe.of_cut (L := LL) (lev := lv) n
    (fun p hp => by rw [Finset.mem_singleton.mp hp]; show n ∈ LL ((c : Thread nD τ), sm); rw [LL, if_pos rfl]; exact Finset.mem_range.mpr hn)
    (fun g ι hg => by rw [LL, if_pos (h g ι hg).1]; exact Finset.mem_range.mpr (h g ι hg).2.2)
    (fun p hp => by rw [Finset.mem_singleton.mp hp]; exact le_rfl)
    (fun g ι hg => (h g ι hg).2.1)

theorem sum_bot {a b : ℕ} (h : a < b) (f : ℕ → Tal) : ∑ t ∈ Finset.Ico a b, f t = f a + ∑ t ∈ Finset.Ico (a + 1) b, f t := by
  have e : Finset.Ico a b = insert a (Finset.Ico (a + 1) b) := by ext; simp; omega
  rw [e, Finset.sum_insert (by simp)]
/-- One step's share of what is owed. -/
theorem owes'_step (c : Dev nD) (r : ℕ) (h : r < 15) :
    owes' c r = owes' c (r + 1) + (owB c true (r + 1) + owB c false (r + 1)) + (owX c true r + owX c false r) := by
  unfold owes'
  rw [sum_bot (by omega : r < 16) fun t => owX c true t + owX c false t, sum_bot (by omega : r + 1 < 16) fun t => owB c true t + owB c false t]
  ac_rfl
theorem owes'_last (c : Dev nD) : owes' c 15 = owX c true 15 := by
  unfold owes'
  have e1 : Finset.Ico 15 16 = {15} := by decide
  rw [e1, Finset.sum_singleton]
  simp [owX, lim]

end Cert.KernelIdeal.Attn

end
-- ==== Proof.Body.lean ====
/- The printed body is the sequence of its stages. -/
module

public import proofs.«01_k».proof.Proof.Prog

@[expose] public section

noncomputable section

namespace Cert.KernelIdeal.Attn

open Cert.KernelIdeal.Gen
open Idealize.ShloMosaic Idealize.SL.Sem

variable {F : FTy → Type} [FloatOps F]

/-! ## The printed offsets and devices -/

/-- The offsets two printed accesses compute, once known in closed form. -/
def offOf (o0 o1 : Fin 3 → ℕ) (h : Fin 32) (e0 : o0 = ![0, 0, 256 * h.val]) (e1 : o1 = ![1, 0, 256 * h.val]) : KvOff where
  o := ![o0, o1]
  inb := by subst e0 e1; intro b; match b with | 0 => exact kvOff_inb h 0 | 1 => exact kvOff_inb h 1
  words := by subst e0 e1; intro b; match b with | 0 => exact kvOff_words h 0 | 1 => exact kvOff_words h 1
theorem offOf_eq (o0 o1 : Fin 3 → ℕ) (h : Fin 32) (e0 : o0 = ![0, 0, 256 * h.val]) (e1 : o1 = ![1, 0, 256 * h.val]) : offOf o0 o1 h e0 e1 = kvOff h := by
  subst e0 e1; apply KvOff.eq_kvOff; intro b; match b with | 0 => rfl | 1 => rfl

theorem off1_eq : ∀ (c : Dev nD) (r : Fin 4), k0_off1 c (k0_off1_at r) = ![0, 0, 256 * (dn c ((![0, 1, 16, 15] : Fin 4 → ℕ) r)).val] := by decide +kernel
theorem off2_eq : ∀ (c : Dev nD) (r : Fin 4), k0_off2 c (k0_off2_at r) = ![1, 0, 256 * (dn c ((![0, 1, 16, 15] : Fin 4 → ℕ) r)).val] := by decide +kernel

theorem trips_lt (t : Fin k0_t1_loop.trips) : t.val < 7 := lt_of_lt_of_eq t.isLt (by decide)
theorem dn_val (c : Fin 32) (n m : ℕ) (hn : n < 32) (h : m = c.val + 64 - n) : (dn c n).val = m % 32 := by
  have := c.isLt
  show (c.val + (32 - n % 32)) % 32 = m % 32
  omega
theorem up_val (c : Fin 32) (n m : ℕ) (h : m = c.val + n) : (up c n).val = m % 32 := by subst h; rfl

def o1 (c : Dev nD) (r : Fin 4) : KvOff := offOf (k0_off1 c (k0_off1_at r)) (k0_off2 c (k0_off2_at r)) (dn c ((![0, 1, 16, 15] : Fin 4 → ℕ) r)) (off1_eq c r) (off2_eq c r)
def o3 (c : Dev nD) (r : Fin 2) : KvOff := offOf (k0_off3 c (BitVec.ofNat 32 (1 + 14 * r.val))) (k0_off4 c (BitVec.ofNat 32 (1 + 14 * r.val))) (up c (14 * r.val + 1))
  (by rw [k0_off3_eq, up_val c _ (c.val + 14 * r.val + 1) (by omega)]) (by rw [k0_off4_eq, up_val c _ (c.val + 14 * r.val + 1) (by omega)])
def o5 (c : Dev nD) (t : Fin k0_t1_loop.trips) (r : Fin 2) : KvOff := offOf (k0_off5 c t (BitVec.ofNat 32 (1 + r.val))) (k0_off6 c t (BitVec.ofNat 32 (1 + r.val))) (dn c (2 * t.val + r.val + 2))
  (by have := trips_lt t; rw [k0_off5_eq c t r, dn_val c _ (c.val + 62 - (2 * t.val + r.val)) (by omega) (by omega)])
  (by have := trips_lt t; rw [k0_off6_eq c t r, dn_val c _ (c.val + 62 - (2 * t.val + r.val)) (by omega) (by omega)])
def o7 (c : Dev nD) (t : Fin k0_t1_loop.trips) (r : Fin 2) : KvOff := offOf (k0_off7 c t (BitVec.ofNat 32 (1 + r.val))) (k0_off8 c t (BitVec.ofNat 32 (1 + r.val))) (up c (2 * t.val + r.val + 2))
  (by rw [k0_off7_eq c t r, up_val c _ (c.val + 2 * t.val + r.val + 2) (by omega)])
  (by rw [k0_off8_eq c t r, up_val c _ (c.val + 2 * t.val + r.val + 2) (by omega)])
def o9 (c : Dev nD) (t : Fin k0_t1_loop.trips) (r : Fin 2) : KvOff := offOf (k0_off9 c t (BitVec.ofNat 32 (1 + r.val))) (k0_off10 c t (BitVec.ofNat 32 (1 + r.val))) (dn c (2 * t.val + r.val + 1))
  (by have := trips_lt t; rw [k0_off9_eq c t r, dn_val c _ (c.val + 63 - (2 * t.val + r.val)) (by omega) (by omega)])
  (by have := trips_lt t; rw [k0_off10_eq c t r, dn_val c _ (c.val + 63 - (2 * t.val + r.val)) (by omega) (by omega)])
def o11 (c : Dev nD) (t : Fin k0_t1_loop.trips) (r : Fin 2) : KvOff := offOf (k0_off11 c t (BitVec.ofNat 32 (1 + r.val))) (k0_off12 c t (BitVec.ofNat 32 (1 + r.val))) (up c (2 * t.val + r.val + 1))
  (by rw [k0_off11_eq c t r, up_val c _ (c.val + 2 * t.val + r.val + 1) (by omega)])
  (by rw [k0_off12_eq c t r, up_val c _ (c.val + 2 * t.val + r.val + 1) (by omega)])

/-! ## The structured body, over the offsets and the neighbours as printed -/

/-- The waits at the end of a step that sent both ways from slots `j`. -/
def waits2 (j j' : Fin 2) (b : Bool) (k : P F PUnit) : P F PUnit :=
  waitSlot (semAt (sendSems true) j) true j' true j <| waitSlot (semAt (recvSems true) j') true j true j' <|
  waitSlot (semAt (sendSems false) j) false j' b j <| waitSlot (semAt (recvSems false) j') b j false j' k

/-- A step of the loop: slots `j` are computed and sent to slots `j'` of the neighbours. -/
def step (j j' : Fin 2) (df db dl dr : Dev nD) (pf pb wf wb : KvOff) (k : P F PUnit) : P F PUnit :=
  send df true j true j' <| send db false j false j' <| kvPre j' 0 pf <| kvPre j' 1 pb <|
  kvWait j 0 wf <| chunk true j j 0 <| kvWait j 1 wb <| chunk false j j 1 <| waits2 j j' false <| barrier dl dr k

/-- Before the loop. -/
def prologue (l r df db dl dr : Dev nD) (p0 p1 q1 w0 : KvOff) (k : P F PUnit) : P F PUnit :=
  barrier l r <| start <| kvPre 0 0 p0 <| kvPre 1 0 p1 <| kvPre 1 1 q1 <|
  send df true 0 true 1 <| send db true 0 false 1 <| kvWait 0 0 w0 <| chunk true 0 0 0 <| waits2 0 1 true <| barrier dl dr k

/-- After the loop. -/
def epilogue (df : Dev nD) (pf wf wb : KvOff) (k : P F PUnit) : P F PUnit :=
  send df true 1 true 0 <| kvPre 0 0 pf <| kvWait 1 0 wf <| chunk true 1 1 0 <| kvWait 1 1 wb <| chunk false 1 1 1 <|
  waitSlot (semAt (sendSems true) 1) true 0 true 1 <| waitSlot (semAt (recvSems true) 0) true 1 true 0 <|
  kvWait 0 0 pf <| chunk true 0 0 0 k

/-- The printed loop body, and the printed body, at the call's buffers. -/
abbrev tripPr (c : Dev nD) (v2 v5 v7 : BitVec 32) := k0_t1_body (F := F) xM (Memref.isWhole_whole _) wqM (Memref.isWhole_whole _) kM (Memref.isWhole_whole _) vM (Memref.isWhole_whole _)
  woM (Memref.isWhole_whole _) outM (Memref.isWhole_whole _) cfM (Memref.isWhole_whole _) cbM (Memref.isWhole_whole _) kvM (Memref.isWhole_whole _) ctxM (Memref.isWhole_whole _)
  cc0_scratch4 cc0_scratch5 cc0_scratch6 cc0_scratch7 cc0_scratch8 c v2 v5 v7 (SemArray.scalar (sig.barrier 0 rfl))
abbrev bodyPr := cc0_body (F := F) xM (Memref.isWhole_whole _) wqM (Memref.isWhole_whole _) kM (Memref.isWhole_whole _) vM (Memref.isWhole_whole _)
  woM (Memref.isWhole_whole _) outM (Memref.isWhole_whole _) cfM (Memref.isWhole_whole _) cbM (Memref.isWhole_whole _) kvM (Memref.isWhole_whole _) ctxM (Memref.isWhole_whole _)
  cc0_scratch4 cc0_scratch5 cc0_scratch6 cc0_scratch7 cc0_scratch8

def tripS (c : Dev nD) (t : Fin k0_t1_loop.trips) : P F PUnit :=
  step 1 0 ⟨k0_dev7 c, k0_dev7_lt c⟩ ⟨k0_dev8 c, k0_dev8_lt c⟩ ⟨k0_dev9 c, k0_dev9_lt c⟩ ⟨k0_dev10 c, k0_dev10_lt c⟩ (o5 c t 0) (o7 c t 0) (o9 c t 0) (o11 c t 0) <|
  step 0 1 ⟨k0_dev11 c, k0_dev11_lt c⟩ ⟨k0_dev12 c, k0_dev12_lt c⟩ ⟨k0_dev13 c, k0_dev13_lt c⟩ ⟨k0_dev14 c, k0_dev14_lt c⟩ (o5 c t 1) (o7 c t 1) (o9 c t 1) (o11 c t 1) (.ret ⟨⟩)

set_option maxRecDepth 65536 in
theorem trip_eqS (c : Dev nD) (v2 v5 v7 : BitVec 32) (t : Fin k0_t1_loop.trips) : tripPr (F := F) c v2 v5 v7 t () = tripS c t := by
  delta tripPr k0_t1_body
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton, k0_part21_eq_skeleton,
    k0_part22_eq_skeleton, k0_part23_eq_skeleton, k0_part24_eq_skeleton, k0_part25_eq_skeleton, k0_part26_eq_skeleton, k0_part27_eq_skeleton]
  rfl

/-- The words of the device's place and of its neighbours'. -/
abbrev w2 (c : Dev nD) : BitVec 32 := Scalar.remsi (Scalar.divsi (Dev.word c) 1#32) 32#32
abbrev w5 (c : Dev nD) : BitVec 32 := Scalar.remsi (Scalar.addi (Scalar.subi (w2 c) 1#32) 32#32) 32#32
abbrev w7 (c : Dev nD) : BitVec 32 := Scalar.remsi (Scalar.addi (w2 c) 1#32) 32#32

def bodyOf (trip : Dev nD → Fin k0_t1_loop.trips → Unit → P F Unit) : P F PUnit := .op .deviceId fun (c : Dev nD) =>
  prologue ⟨k0_dev1 c, k0_dev1_lt c⟩ ⟨k0_dev2 c, k0_dev2_lt c⟩ ⟨k0_dev3 c, k0_dev3_lt c⟩ ⟨k0_dev4 c, k0_dev4_lt c⟩ ⟨k0_dev5 c, k0_dev5_lt c⟩ ⟨k0_dev6 c, k0_dev6_lt c⟩
    (o1 c 0) (o1 c 1) (o3 c 0) (o1 c 0) <|
  (Scf.for k0_t1_loop.lb k0_t1_loop.ub k0_t1_loop.st k0_t1_ok () (trip c) >>= fun _ => Prog.ret ⟨⟩) >>= fun (_ : PUnit) =>
  epilogue ⟨k0_dev15 c, k0_dev15_lt c⟩ (o1 c 2) (o1 c 3) (o3 c 1) (.ret ⟨⟩)

set_option maxRecDepth 65536 in
theorem body_eqS : bodyPr (F := F) = bodyOf fun c => tripPr c (w2 c) (w5 c) (w7 c) := by
  rw [bodyPr, cc0_body_eq_skeleton]
  delta cc0_body_skel
  simp only [k0_part28_eq_skeleton, k0_part29_eq_skeleton, k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton, k0_part40_eq_skeleton, k0_part41_eq_skeleton,
    k0_part42_eq_skeleton, k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton]
  rfl

/-! ## The body over the neighbours and the head blocks in closed form -/

/-- One trip of the loop. -/
def trip (c : Dev nD) (t : ℕ) : P F PUnit :=
  step 1 0 (nxt c) (prv c) (prv c) (nxt c) (kvOff (dn c (2 * t + 2))) (kvOff (up c (2 * t + 2))) (kvOff (dn c (2 * t + 1))) (kvOff (up c (2 * t + 1))) <|
  step 0 1 (nxt c) (prv c) (prv c) (nxt c) (kvOff (dn c (2 * t + 3))) (kvOff (up c (2 * t + 3))) (kvOff (dn c (2 * t + 2))) (kvOff (up c (2 * t + 2))) (.ret ⟨⟩)

theorem trip_eq (c : Dev nD) (v2 v5 v7 : BitVec 32) (t : Fin k0_t1_loop.trips) : tripPr (F := F) c v2 v5 v7 t () = trip c t.val := by
  rw [trip_eqS, tripS, trip]
  simp only [o5, o7, o9, o11, offOf_eq, k0_dev7_eq, k0_dev8_eq, k0_dev9_eq, k0_dev10_eq, k0_dev11_eq, k0_dev12_eq, k0_dev13_eq, k0_dev14_eq]
  rfl

/-- The body. -/
def body : P F PUnit := .op .deviceId fun (c : Dev nD) =>
  prologue (prv c) (nxt c) (nxt c) (prv c) (prv c) (nxt c) (kvOff (dn c 0)) (kvOff (dn c 1)) (kvOff (up c 1)) (kvOff (dn c 0)) <|
  Scf.for k0_t1_loop.lb k0_t1_loop.ub k0_t1_loop.st k0_t1_ok () (fun t _ => trip c t.val) >>= fun _ =>
  epilogue (nxt c) (kvOff (dn c 16)) (kvOff (dn c 15)) (kvOff (up c 15)) (.ret ⟨⟩)

theorem body_eq : bodyPr (F := F) = body := by
  have hl : ∀ (c : Dev nD), (tripPr (F := F) c (w2 c) (w5 c) (w7 c)) = fun t _ => trip c t.val := fun c => funext fun t => funext fun _ => trip_eq c _ _ _ t
  rw [body_eqS, bodyOf, body]
  simp only [hl, bind_assoc, Prog.bind_ret, o1, o3, offOf_eq, k0_dev1_eq, k0_dev2_eq, k0_dev3_eq, k0_dev4_eq, k0_dev5_eq, k0_dev6_eq, k0_dev15_eq]
  rfl

end Cert.KernelIdeal.Attn

end
-- ==== Proof.Stage.lean ====
/- One rule for each stage that talks to a neighbour: the copies, their waits and the barrier. -/
module

public import proofs.«01_k».proof.Proof.Sched
public import proofs.«01_k».proof.Proof.Body

@[expose] public section

noncomputable section

namespace Cert.KernelIdeal.Attn

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev V0 : Variants := Variants.none
/-- A device's program, run to a post. -/
abbrev WP (c : Dev nD) (p : P F PUnit) (Q : PUnit → sProp (MM F)) : sProp (MM F) :=
  wp frame (wpE (defs₀ (F := F)) V0 (c : Thread nD τ) none) Set.univ p Q
/-- What a device owes, whatever it has waited for. -/
def Ow (c : Dev nD) (O : Tal) : sProp (MM F) := iprop(∃ W : Waits sig ℕ, owes (c : Thread nD τ) O W)

variable (I : Ins F) (K : Dev nD × CK → ℕ)

/-- The cells' invariants and the levels. -/
def recs : sProp (MM F) := iprop((bigSep Finset.univ fun x : Dev nD × CK => cellInv ER (Rd I) (K x) (cell x.1 x.2)) ∗ levAts LL lv)
instance recs_persistent : BI.Persistent (recs I K) := by unfold recs; infer_instance
theorem recs_inv (c : Dev nD) (k : CK) : recs I K ⊢ cellInv ER (Rd I) (K (c, k)) (cell c k) := by
  unfold recs
  exact sep_elim_left.trans (BI.bigSep_elim (Finset.mem_univ (c, k)))
theorem recs_wait (c : Dev nD) (sm : SemLoc sig) (n : ℕ) (hn : n < 64) {O : Tal} (h : Above n O) : recs I K ⊢ MayWait (c : Thread nD τ) sm n O := by
  unfold recs
  exact sep_elim_right.trans (mayWait c sm n hn h)

/-- The rights to the copy of step `t` in a direction. -/
def xk (c : Dev nD) (b : Bool) (t : ℕ) : sProp (MM F) :=
  iprop(dutyTok ER (cell c (.send b (sl t))) (t / 2) true ∗ dutyTok ER (cell (tgt b c) (.recv b (sl (t + 1)))) (t / 2) true)
/-- The credit for what arrives at step `t`. -/
def xc (c : Dev nD) (b : Bool) (t : ℕ) : sProp (MM F) := cred (tallyAt (cell c (.recv b (sl (t + 1)))) (2 * t + 2) NC)
/-- The rights to the signals of the barrier's round `r`, and the credit for the round. -/
def bk (c : Dev nD) (r : ℕ) : sProp (MM F) :=
  iprop(dutyTok ER (cell (prv c) .bar) r true ∗ dutyTok ER (cell (nxt c) .bar) r false ∗ cred (tallyAt (cell c .bar) (2 * r + 1) 2))

/-- A device's places at the cells of step `t`'s copies. -/
def posS (c : Dev nD) (b : Bool) (t : ℕ) : sProp (MM F) := iprop(atPos ER (cell c (.send b (sl t))) (t / 2) ∅ 0 ∗ reached ER (cell c (.send b (sl t))) (t / 2))
def posR (c : Dev nD) (b : Bool) (t : ℕ) : sProp (MM F) := atPos ER (cell c (.recv b (sl (t + 1)))) (t / 2) ∅ 0
def rchR (c : Dev nD) (b : Bool) (t : ℕ) : sProp (MM F) := reached ER (cell c (.recv b (sl (t + 1)))) (t / 2)
instance rchR_persistent (c : Dev nD) (b : Bool) (t : ℕ) : BI.Persistent (rchR (F := F) c b t) := by unfold rchR; infer_instance
def posB (c : Dev nD) (r : ℕ) : sProp (MM F) := iprop(atPos ER (cell c .bar) r ∅ 0 ∗ reached ER (cell c .bar) r)
def rchB (c : Dev nD) (r : ℕ) : sProp (MM F) := reached ER (cell c .bar) r
instance rchB_persistent (c : Dev nD) (r : ℕ) : BI.Persistent (rchB (F := F) c r) := by unfold rchB; infer_instance

theorem sl_add (t : ℕ) : sl (t + 2) = sl t := Fin.ext (by simp [sl])
theorem half_add (t : ℕ) : (t + 2) / 2 = t / 2 + 1 := by omega
theorem chunk_next (b : Bool) (c : Dev nD) (t : ℕ) (h : t < 31) : chunkAt b (tgt b c) (t + 1) = chunkAt b c t := by
  have : c.val < 32 := c.isLt
  cases b <;> refine Fin.ext ?_ <;> simp only [chunkAt, tgt, up, dn] <;> simp <;> omega

theorem owX_lt (c : Dev nD) (b : Bool) (t : ℕ) (h : t < lim b) : owX c b t = tallyAt (cell (tgt b c) (.recv b (sl (t + 1)))) (2 * t + 2) NC := if_pos h

/-- The copy of step `t`. -/
theorem wp_copy (c : Dev nD) (b sb : Bool) (t : ℕ) (ht : t < lim b) (j j' : Fin 2) (hj : j = sl t) (hj' : j' = sl (t + 1)) (d : Dev nD) (hd : d = tgt b c)
    (q : PosShare TreeShare) (e : Dev nD) (he : e = chunkAt b c t) (hpay : holds I c sb j q e ⊢ sendPay I c b t) (O : Tal) {k : P F PUnit} {Q : PUnit → sProp (MM F)} :
    recs I K ⊢ iprop(holds I c sb j q e -∗ (free (tgt b c) b (sl (t + 1)) ∗ rchR (tgt b c) b t) -∗ rchB c (t + 1) -∗ reached ER (cell c (.send b (sl t))) (t / 2)
      -∗ xk c b t -∗ Ow c (O + owX c b t) -∗ ((cred (tallyAt (cell c (.send b (sl t))) 0 NC) ∗ Ow c O) -∗ WP c k Q)
      -∗ WP c (send d sb j b j' k) Q) := by
  have hl : t < 31 := lt_of_lt_of_le ht (by cases b <;> decide)
  subst hj hj' hd he
  unfold xk Ow rchB rchR free
  iintro #HR Hs ⟨⟨%fd, Hd⟩, #Hr2⟩ #Hb #Hr1 ⟨Ht1, Ht2⟩ ⟨%W, HO⟩ Hk
  unfold holds
  iapply (Rounds.wp_send_pointsTo_with V0 ER (Rd I) (c : Thread nD τ) none (κ₁ := K (c, .send b (sl t))) (κ₂ := K (tgt b c, .recv b (sl (t + 1))))
    (c' := (tgt b c : Thread nD τ)) (src := slotM sb (sl t)) (dst := slotM b (sl (t + 1)))
    (sS := csem (.send b (sl t))) (sem := csem (.recv b (sl (t + 1))))
    (r₁ := t / 2) (r₂ := t / 2) (d₁ := true) (d₂ := true) (fd := fd) (F := reached ER (cell c .bar) (t + 1)) (q := q) (fs := comC I sb (chunkAt b c t))
    (by rw [show ((c : Thread nD τ), csem (.send b (sl t))) = cell c (.send b (sl t)) from rfl, duties_cell, dut_send b t ht]; exact Finset.mem_singleton_self _)
    (by rw [show ((tgt b c : Thread nD τ), csem (.recv b (sl (t + 1)))) = cell (tgt b c) (.recv b (sl (t + 1))) from rfl, duties_cell, dut_recv b t ht]; exact Finset.mem_singleton_self _)
    (2 * t + 2) 0 NC (credit_slot b _) (amount_cell I c _ _ _) (amount_cell I (tgt b c) _ _ _) O (show O + owX c b t = _ from congrArg (O + ·) (owX_lt c b t ht)) (W := W)
    (by rw [show ((c : Thread nD τ), csem (.send b (sl t))) = cell c (.send b (sl t)) from rfl, payload_cell, pay_send]; exact hpay)
    (by
      rw [show ((tgt b c : Thread nD τ), csem (.recv b (sl (t + 1)))) = cell (tgt b c) (.recv b (sl (t + 1))) from rfl, payload_cell, pay_recv]
      unfold recvPay holds
      rw [frm_tgt, chunk_next b c t hl, pointsTo_congr (landed I sb b (sl t) (sl (t + 1)) (chunkAt b c t) fd)])) $$ [Hs Hd HO Ht1 Ht2]
  · isplitr; · iapply (recs_inv I K c (.send b (sl t))); iexact HR
    isplitr; · iapply (recs_inv I K (tgt b c) (.recv b (sl (t + 1)))); iexact HR
    isplitl [Hs]; · iexact Hs
    isplitl [Hd]
    · isplitl [Hd]; · iexact Hd
      iexact Hb
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A wait on one of the copies' cells. -/
theorem wp_cell (c : Dev nD) (ck : CK) (s : DmaSem sig) (hs : csem ck = .dma s) (r n : ℕ) (hn : n < 64) (hdut : kdut ck r = {true}) (hamt : kamt ck = NC)
    (b : Bool) (j : Fin 2) (b' : Bool) (j' : Fin 2) (O : Tal) (hO : Above n O) {k : P F PUnit} {Q : PUnit → sProp (MM F)} :
    recs I K ⊢ iprop(cred (tallyAt (cell c ck) n NC) -∗ atPos ER (cell c ck) r ∅ 0 -∗ Ow c O
      -∗ ((Ow c O ∗ atPos ER (cell c ck) (r + 1) ∅ 0 ∗ reached ER (cell c ck) (r + 1) ∗ kpay I c ck r true) -∗ WP c k Q)
      -∗ WP c (waitSlot s b j b' j' k) Q) := by
  unfold Ow
  iintro #HR Hc Hat ⟨%W, HO⟩ Hk
  iapply (Rounds.wp_wait_rest_token V0 ER (Rd I) (c : Thread nD τ) none (κ := K (c, ck)) (sm := csem ck)
      (by rw [hs]; exact wpE_waitDma2_eq V0 (c : Thread nD τ) none Set.univ) (Set.mem_univ _) n (O := O) (W := W) (R := r) (m := 0) (T := ∅)
      (by rw [Nat.zero_add, credit_slot]; exact (expect_dma I c ck r hdut hamt).symm)) $$ [Hc HO Hat]
  · isplitr; · iapply (recs_inv I K c ck); iexact HR
    isplitl [Hc]; · rw [credit_slot]; iexact Hc
    isplitl [HO]; · iexact HO
    isplitr; · iapply (recs_wait I K c (csem ck) n hn hO); iexact HR
    iexact Hat
  iintro ⟨HO, Hat, Hr, Hpay⟩
  iapply Hk
  isplitl [HO]; · iexists _; iexact HO
  isplitl [Hat]; · iexact Hat
  isplitl [Hr]; · iexact Hr
  iapply (Entails.of_eq (show bigSep ((Rd I).duties (cell c ck) r \ ∅) (fun d => (Rd I).payload (cell c ck) r d) = kpay I c ck r true by
    rw [duties_cell, hdut, Finset.sdiff_empty, bigSep_singleton, payload_cell]))
  iexact Hpay

/-- The wait for a step's own copy to have left. -/
theorem wp_sent (c : Dev nD) (b : Bool) (t : ℕ) (ht : t < lim b) (s : DmaSem sig) (hs : s = semAt (sendSems b) (sl t)) (sb : Bool) (j : Fin 2) (b' : Bool) (j' : Fin 2)
    (O : Tal) (hO : Above 0 O) {k : P F PUnit} {Q : PUnit → sProp (MM F)} :
    recs I K ⊢ iprop(cred (tallyAt (cell c (.send b (sl t))) 0 NC) -∗ posS c b t -∗ Ow c O
      -∗ ((Ow c O ∗ posS c b (t + 2) ∗ sendPay I c b t) -∗ WP c k Q) -∗ WP c (waitSlot s sb j b' j' k) Q) := by
  subst hs
  unfold posS
  rw [sl_add, half_add]
  iintro #HR Hc ⟨Hat, -⟩ HO Hk
  iapply (wp_cell I K c (.send b (sl t)) _ rfl (t / 2) 0 (by decide) (dut_send b t ht) rfl sb j b' j' O hO) $$ HR Hc Hat HO
  iintro ⟨HO, Hat, Hr, Hp⟩
  iapply Hk
  isplitl [HO]; · iexact HO
  isplitl [Hat Hr]; · isplitl [Hat] <;> iassumption
  iapply (Entails.of_eq (pay_send I c b t true)); iexact Hp

/-- The wait for what a step brings. -/
theorem wp_got (c : Dev nD) (b : Bool) (t : ℕ) (ht : t < lim b) (s : DmaSem sig) (hs : s = semAt (recvSems b) (sl (t + 1))) (sb : Bool) (j : Fin 2) (b' : Bool) (j' : Fin 2)
    (O : Tal) (hO : Above (2 * t + 2) O) {k : P F PUnit} {Q : PUnit → sProp (MM F)} :
    recs I K ⊢ iprop(xc c b t -∗ posR c b t -∗ Ow c O
      -∗ ((Ow c O ∗ posR c b (t + 2) ∗ rchR c b (t + 2) ∗ holds I c b (sl (t + 1)) fullShare (chunkAt b c (t + 1)) ∗ rchB (frm b c) (t + 1)) -∗ WP c k Q)
      -∗ WP c (waitSlot s sb j b' j' k) Q) := by
  have hl : t < 16 := lt_of_lt_of_le ht (by cases b <;> decide)
  subst hs
  unfold posR rchR xc rchB
  rw [show t + 2 + 1 = (t + 1) + 2 from rfl, sl_add, half_add]
  iintro #HR Hc Hat HO Hk
  iapply (wp_cell I K c (.recv b (sl (t + 1))) _ rfl (t / 2) (2 * t + 2) (by omega) (dut_recv b t ht) rfl sb j b' j' O hO) $$ HR Hc Hat HO
  iintro ⟨HO, Hat, Hr, Hp⟩
  iapply Hk
  isplitl [HO]; · iexact HO
  isplitl [Hat]; · iexact Hat
  isplitl [Hr]; · iexact Hr
  iapply (show kpay I c (.recv b (sl (t + 1))) (t / 2) true ⊢ iprop(holds I c b (sl (t + 1)) fullShare (chunkAt b c (t + 1)) ∗ reached ER (cell (frm b c) .bar) (t + 1))
    from Entails.of_eq (pay_recv I c b t true))
  iexact Hp

/-- The barrier's round `r`. -/
theorem wp_barrier (c : Dev nD) (r : ℕ) (hr : r < 16) (O : Tal) (hO : Above (2 * r + 1) O) {k : P F PUnit} {Q : PUnit → sProp (MM F)} :
    recs I K ⊢ iprop(barPay (prv c) r true -∗ barPay (nxt c) r false -∗ rchB (prv c) r -∗ rchB (nxt c) r -∗ bk c r -∗ posB c r -∗ Ow c (O + (owB c true r + owB c false r))
      -∗ ((Ow c O ∗ posB c (r + 1) ∗ barPay c r true ∗ barPay c r false) -∗ WP c k Q)
      -∗ WP c (barrier (prv c) (nxt c) k) Q) := by
  unfold bk posB Ow rchB
  iintro #HR Hp1 Hp2 #Hr1 #Hr2 ⟨Ht1, Ht2, Hc⟩ ⟨Hat, -⟩ ⟨%W, HO⟩ Hk
  unfold barrier
  iapply (Rounds.wp_signal V0 ER (Rd I) (c : Thread nD τ) none (dst := (prv c : Thread nD τ)) (sem := barSem) (κ := K (prv c, .bar)) (r := r)
      (d := true) (k' := 1) (by rw [show ((prv c : Thread nD τ), SemLoc.reg barSem) = cell (prv c) .bar from rfl, duties_cell]; simp only [kdut, hr, if_true]; exact Finset.mem_univ _)
      (amount_cell I (prv c) .bar r true) (2 * r + 1) (O + owB c false r) (by rw [add_assoc, add_comm (owB c false r)]) (W := W)) $$ [HO Ht1 Hp1]
  · isplitr; · iapply (recs_inv I K (prv c) .bar); iexact HR
    isplitl [HO]; · iexact HO
    isplitl [Ht1]; · iexact Ht1
    isplitl [Hp1]; · iapply (show barPay (prv c) r true ⊢ (Rd I).payload ((prv c : Thread nD τ), SemLoc.reg barSem) r true from Entails.of_eq (payload_cell I (prv c) .bar r true).symm); iexact Hp1
    iexact Hr1
  iintro HO
  iapply (Rounds.wp_signal V0 ER (Rd I) (c : Thread nD τ) none (dst := (nxt c : Thread nD τ)) (sem := barSem) (κ := K (nxt c, .bar)) (r := r)
      (d := false) (k' := 1) (by rw [show ((nxt c : Thread nD τ), SemLoc.reg barSem) = cell (nxt c) .bar from rfl, duties_cell]; simp only [kdut, hr, if_true]; exact Finset.mem_univ _)
      (amount_cell I (nxt c) .bar r false) (2 * r + 1) O rfl (W := W)) $$ [HO Ht2 Hp2]
  · isplitr; · iapply (recs_inv I K (nxt c) .bar); iexact HR
    isplitl [HO]; · iexact HO
    isplitl [Ht2]; · iexact Ht2
    isplitl [Hp2]; · iapply (show barPay (nxt c) r false ⊢ (Rd I).payload ((nxt c : Thread nD τ), SemLoc.reg barSem) r false from Entails.of_eq (payload_cell I (nxt c) .bar r false).symm); iexact Hp2
    iexact Hr2
  iintro HO
  iapply (Rounds.wp_wait_rest_token V0 ER (Rd I) (c : Thread nD τ) none (κ := K (c, .bar)) (sm := csem .bar) (k' := 2)
      (wpE_semWait_eq V0 (c : Thread nD τ) none Set.univ) (Set.mem_univ _) (2 * r + 1) (O := O) (W := W) (R := r) (m := 0) (T := ∅)
      (by rw [Nat.zero_add]; exact (expect_bar I c r hr).symm)) $$ [Hc HO Hat]
  · isplitr; · iapply (recs_inv I K c .bar); iexact HR
    isplitl [Hc]; · iexact Hc
    isplitl [HO]; · iexact HO
    isplitr; · iapply (recs_wait I K c (csem .bar) (2 * r + 1) (by omega) hO); iexact HR
    iexact Hat
  iintro ⟨HO, Hat, Hr, Hpay⟩
  iapply Hk
  isplitl [HO]; · iexists _; iexact HO
  isplitl [Hat Hr]; · isplitl [Hat] <;> iassumption
  iapply (Entails.of_eq (show bigSep ((Rd I).duties (cell c .bar) r \ ∅) (fun d => (Rd I).payload (cell c .bar) r d) = iprop(barPay c r true ∗ barPay c r false) by
    rw [duties_cell, Finset.sdiff_empty]
    simp only [kdut, hr, if_true]
    rw [show (Finset.univ : Finset Bool) = {true, false} by decide, BI.bigSep_insert (by decide), bigSep_singleton, payload_cell, payload_cell]; rfl))
  iexact Hpay

end Cert.KernelIdeal.Attn

end
-- ==== Proof.Comp.lean ====
/- One rule for each stage that works within a device: the key and value copies, a chunk's computation, the first stores. -/
module

public import proofs.«01_k».proof.Proof.Stage

@[expose] public section

noncomputable section

namespace Cert.KernelIdeal.Attn

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (I : Ins F) (K : Dev nD × CK → ℕ)

/-! ## Keys and values -/

/-- Half a share, then half of that, then half again: one share for each parity, stream and row of the batch. -/
def half (q : PosShare TreeShare) (i : Fin 2) : PosShare TreeShare := if i.val = 0 then q.left else q.right
def shr (p s b : Fin 2) : PosShare TreeShare := half (half (half fullShare p) s) b

/-- The units one piece is worth. -/
def NK : ℕ := (pieceM 0 0 0 0).view.dmaCredit
theorem NK_pos : 0 < NK := View.dmaCredit_pos _ (by decide)
theorem credit_piece (p s i b : Fin 2) : (pieceM p s i b).view.dmaCredit = NK := rfl

def kvFree (c : Dev nD) (p s i b : Fin 2) : sProp (MM F) :=
  iprop(∃ f : (pieceM p s i b).view.ty.Contents (Elt F), (pieceM p s i b).view.loc (c : Thread nD τ) ↦[(pieceM p s i b).view.set]{fullShare} f)
def kvGot (c : Dev nD) (h : Fin 32) (p s i b : Fin 2) : sProp (MM F) :=
  (pieceM p s i b).view.loc (c : Thread nD τ) ↦[(pieceM p s i b).view.set]{fullShare} kvW I c h
def kvSrc (c : Dev nD) (p s i b : Fin 2) : sProp (MM F) := (kvIn i).view.loc (c : Thread nD τ) ↦{shr p s b} kvG I c i
def kvCol (c : Dev nD) (h : Fin 32) (p s i b : Fin 2) : sProp (MM F) :=
  (colM i (kvOff h) b).view.loc (c : Thread nD τ) ↦[(colM i (kvOff h) b).view.set]{shr p s b} kvG I c i
def kvRest (c : Dev nD) (h : Fin 32) (p s i b : Fin 2) : sProp (MM F) :=
  (kvIn i).view.loc (c : Thread nD τ) ↦[Finset.univ \ (colM i (kvOff h) b).view.set]{shr p s b} kvG I c i
theorem kvSrc_split (c : Dev nD) (h : Fin 32) (p s i b : Fin 2) : kvSrc I c p s i b ⊣⊢ iprop(kvCol I c h p s i b ∗ kvRest I c h p s i b) :=
  pointsTo_split_subset (Finset.subset_univ _)

/-- Something for each of the four copies. -/
def four (A : Fin 2 → Fin 2 → sProp (MM F)) : sProp (MM F) := iprop(A 0 0 ∗ A 0 1 ∗ A 1 0 ∗ A 1 1)
theorem four_mono {A B : Fin 2 → Fin 2 → sProp (MM F)} (h : ∀ i b, A i b ⊢ B i b) : four A ⊢ four B :=
  BIClass.sep_mono (h 0 0) (BIClass.sep_mono (h 0 1) (BIClass.sep_mono (h 1 0) (h 1 1)))

/-- What each of the four copies leaves. -/
def kvD (c : Dev nD) (h : Fin 32) (p s : Fin 2) (t : Fin 4) : sProp (MM F) :=
  iprop(kvGot I c h p s ((![0, 0, 1, 1] : Fin 4 → Fin 2) t) ((![0, 1, 0, 1] : Fin 4 → Fin 2) t) ∗ kvCol I c h p s ((![0, 0, 1, 1] : Fin 4 → Fin 2) t) ((![0, 1, 0, 1] : Fin 4 → Fin 2) t))
instance kvD_storable (c : Dev nD) (h : Fin 32) (p s : Fin 2) (t : Fin 4) : BI.Storable (upEmb : UEmb _ (MM F)) (kvD I c h p s t) := by
  unfold kvD kvGot kvCol; infer_instance

def kvCell (c : Dev nD) (p s : Fin 2) : sProp (MM F) := semVal ((c : Thread nD τ), SemLoc.dma (kvSem p s)) 0
/-- A part of the scratch at rest, with its copies in flight, and with its copies landed. -/
def kvIdle (c : Dev nD) (p s : Fin 2) : sProp (MM F) := iprop(four (kvFree (F := F) c p s) ∗ four (kvSrc I c p s) ∗ kvCell c p s)
def kvBusy (c : Dev nD) (p s : Fin 2) (h : Fin 32) : sProp (MM F) :=
  iprop(Batch EC (c : Thread nD τ) (.dma (kvSem p s)) 0 NK (kvD I c h p s) 4 0 ∗ four (kvRest I c h p s))
def kvReady (c : Dev nD) (p s : Fin 2) (h : Fin 32) : sProp (MM F) := iprop(four (kvGot I c h p s) ∗ four (kvSrc I c p s) ∗ kvCell c p s)
theorem kvReady_idle (c : Dev nD) (p s : Fin 2) (h : Fin 32) : kvReady I c p s h ⊢ kvIdle I c p s :=
  sep_mono_left (four_mono fun i b => by unfold kvGot kvFree; iintro H; iexists _; iexact H)

theorem wp_kvCopy (c : Dev nD) (p s i b : Fin 2) (h : Fin 32) (t : Fin 4) (hi : (![0, 0, 1, 1] : Fin 4 → Fin 2) t = i) (hb : (![0, 1, 0, 1] : Fin 4 → Fin 2) t = b)
    (n n' : ℕ) (hn : t.val = n) (hn' : n + 1 = n') {k : P F PUnit} {Q : PUnit → sProp (MM F)} :
    kvFree c p s i b ⊢ iprop(kvCol I c h p s i b -∗ Batch EC (c : Thread nD τ) (.dma (kvSem p s)) 0 NK (kvD I c h p s) n 0
      -∗ (Batch EC (c : Thread nD τ) (.dma (kvSem p s)) 0 NK (kvD I c h p s) n' 0 -∗ WP c k Q) -∗ WP c (kvCopy p s i b (kvOff h) k) Q) := by
  subst hi hb hn hn'
  unfold kvFree
  iintro ⟨%fd, Hd⟩ Hs HB Hk
  unfold kvCol kvCopy
  iapply (wp_dmaBatch EC V0 (c : Thread nD τ) none (src := colM _ (kvOff h) _) (dst := pieceM p s _ _) (via := ReadAs.same) (D := kvD I c h p s) (j := t.val) (u := 0)
      (fd := fd) (q := shr p s _) (fs := kvG I c _) 0 NK rfl (Finset.Subset.refl _) t.isLt (Nat.zero_le _)
      (by
        unfold kvD kvGot kvCol
        exact BIClass.sep_mono (Entails.of_eq (pointsTo_congr (kv_landed I c p s ((![0, 0, 1, 1] : Fin 4 → Fin 2) t) ((![0, 1, 0, 1] : Fin 4 → Fin 2) t) h fd))) (BI.Entails.refl _))) $$ [Hs Hd HB]
  · isplitl [Hs]; · iexact Hs
    isplitl [Hd]; · iexact Hd
    iexact HB
  iexact Hk

/-- The four copies of a head block start. -/
theorem wp_kvPre (c : Dev nD) (p s : Fin 2) (h : Fin 32) {k : P F PUnit} {Q : PUnit → sProp (MM F)} :
    kvIdle I c p s ⊢ iprop((kvBusy I c p s h -∗ WP c k Q) -∗ WP c (kvPre p s (kvOff h) k) Q) := by
  unfold kvIdle kvBusy kvCell four kvPre
  iintro ⟨⟨Hd0, Hd1, Hd2, Hd3⟩, ⟨Hs0, Hs1, Hs2, Hs3⟩, Hv⟩ Hk
  ihave Hs0 := (kvSrc_split I c h p s 0 0).1 $$ Hs0
  ihave Hs1 := (kvSrc_split I c h p s 0 1).1 $$ Hs1
  ihave Hs2 := (kvSrc_split I c h p s 1 0).1 $$ Hs2
  ihave Hs3 := (kvSrc_split I c h p s 1 1).1 $$ Hs3
  icases Hs0 with ⟨Hs0, Hr0⟩
  icases Hs1 with ⟨Hs1, Hr1⟩
  icases Hs2 with ⟨Hs2, Hr2⟩
  icases Hs3 with ⟨Hs3, Hr3⟩
  imod (batch_alloc' EC (c : Thread nD τ) (sm := .dma (kvSem p s)) 0 NK (kvD I c h p s) (E := Set.univ)) $$ Hv with HB
  iapply (wp_kvCopy I c p s 0 0 h 0 rfl rfl 0 1 rfl rfl) $$ Hd0 Hs0 HB
  iintro HB
  iapply (wp_kvCopy I c p s 0 1 h 1 rfl rfl 1 2 rfl rfl) $$ Hd1 Hs1 HB
  iintro HB
  iapply (wp_kvCopy I c p s 1 0 h 2 rfl rfl 2 3 rfl rfl) $$ Hd2 Hs2 HB
  iintro HB
  iapply (wp_kvCopy I c p s 1 1 h 3 rfl rfl 3 4 rfl rfl) $$ Hd3 Hs3 HB
  iintro HB
  iapply Hk
  isplitl [HB]; · iexact HB
  isplitl [Hr0]; · iexact Hr0
  isplitl [Hr1]; · iexact Hr1
  isplitl [Hr2] <;> iassumption

theorem wp_kvWait1 (c : Dev nD) (p s i b : Fin 2) (h h' : Fin 32) (u : ℕ) (hu : u < 3) (O : Tal) (hO : Above 0 O) {k : P F PUnit} {Q : PUnit → sProp (MM F)} :
    recs I K ⊢ iprop(Batch EC (c : Thread nD τ) (.dma (kvSem p s)) 0 NK (kvD I c h p s) 4 (u * NK) -∗ Ow c O
      -∗ ((Batch EC (c : Thread nD τ) (.dma (kvSem p s)) 0 NK (kvD I c h p s) 4 ((u + 1) * NK) ∗ Ow c O) -∗ WP c k Q)
      -∗ WP c (kvWait1 p s i b (kvOff h') k) Q) := by
  unfold Ow kvWait1
  iintro #HR HB ⟨%W, HO⟩ Hk
  have hN := NK_pos
  iapply (wp_waitBatchO EC V0 (c : Thread nD τ) none 0 (credit_piece p s i b) (D := kvD I c h p s) (u := u * NK) (O := O) (W := W)
    (by rw [← Nat.succ_mul, Nat.mul_comm NK 4]; exact Nat.mul_lt_mul_of_pos_right (by omega) hN)) $$ [HB HO]
  · isplitl [HB]; · iexact HB
    isplitl [HO]; · iexact HO
    iapply (recs_wait I K c (.dma (kvSem p s)) 0 (by decide) hO); iexact HR
  iintro ⟨HB, HO⟩
  iapply Hk
  isplitl [HB]; · rw [Nat.succ_mul]; iexact HB
  iexists _; iexact HO

/-- The four waits: the head block's keys and values are there. -/
theorem wp_kvWait (c : Dev nD) (p s : Fin 2) (h h' : Fin 32) (O : Tal) (hO : Above 0 O) {k : P F PUnit} {Q : PUnit → sProp (MM F)} :
    recs I K ⊢ iprop(kvBusy I c p s h -∗ Ow c O -∗ ((kvReady I c p s h ∗ Ow c O) -∗ WP c k Q) -∗ WP c (kvWait p s (kvOff h') k) Q) := by
  unfold kvBusy kvReady kvCell four kvWait
  iintro #HR ⟨HB, Hr0, Hr1, Hr2, Hr3⟩ HO Hk
  ihave HB := (show Batch EC (c : Thread nD τ) (.dma (kvSem p s)) 0 NK (kvD I c h p s) 4 0 ⊢ Batch EC (c : Thread nD τ) (.dma (kvSem p s)) 0 NK (kvD I c h p s) 4 (0 * NK)
    from Entails.of_eq (by rw [Nat.zero_mul])) $$ HB
  iapply (wp_kvWait1 I K c p s 0 0 h h' 0 (by decide) O hO) $$ HR HB HO
  iintro ⟨HB, HO⟩
  iapply (wp_kvWait1 I K c p s 0 1 h h' 1 (by decide) O hO) $$ HR HB HO
  iintro ⟨HB, HO⟩
  iapply (wp_kvWait1 I K c p s 1 0 h h' 2 (by decide) O hO) $$ HR HB HO
  iintro ⟨HB, HO⟩
  unfold Ow kvWait1
  icases HO with ⟨%W, HO⟩
  iapply (wp_waitBatchLastO EC V0 (c : Thread nD τ) none 0 (credit_piece p s 1 1) NK_pos (D := kvD I c h p s) (u := 3 * NK) (O := O) (W := W) (by omega)) $$ [HB HO]
  · isplitl [HB]; · iexact HB
    isplitl [HO]; · iexact HO
    iapply (recs_wait I K c (.dma (kvSem p s)) 0 (by decide) hO); iexact HR
  iintro ⟨HD, Hv, HO⟩
  ihave HD := (show bigSep Finset.univ (kvD I c h p s) ⊢ iprop(kvD I c h p s 0 ∗ kvD I c h p s 1 ∗ kvD I c h p s 2 ∗ kvD I c h p s 3) from Entails.of_eq (by
    rw [show (Finset.univ : Finset (Fin 4)) = {0, 1, 2, 3} by decide, BI.bigSep_insert (by decide), BI.bigSep_insert (by decide), BI.bigSep_insert (by decide), bigSep_singleton]; rfl)) $$ HD
  unfold kvD
  icases HD with ⟨⟨Hd0, Hs0⟩, ⟨Hd1, Hs1⟩, ⟨Hd2, Hs2⟩, ⟨Hd3, Hs3⟩⟩
  iapply Hk
  isplitr [HO]
  · isplitl [Hd0 Hd1 Hd2 Hd3]
    · isplitl [Hd0]; · iexact Hd0
      isplitl [Hd1]; · iexact Hd1
      isplitl [Hd2]; · iexact Hd2
      iexact Hd3
    isplitr [Hv]
    · isplitl [Hs0 Hr0]; · iapply (kvSrc_split I c h p s 0 0).2; isplitl [Hs0]; · iexact Hs0
                           iexact Hr0
      isplitl [Hs1 Hr1]; · iapply (kvSrc_split I c h p s 0 1).2; isplitl [Hs1]; · iexact Hs1
                           iexact Hr1
      isplitl [Hs2 Hr2]; · iapply (kvSrc_split I c h p s 1 0).2; isplitl [Hs2]; · iexact Hs2
                           iexact Hr2
      iapply (kvSrc_split I c h p s 1 1).2; isplitl [Hs3]; · iexact Hs3
      iexact Hr3
    iexact Hv
  iexists _; iexact HO

/-! ## The computation of a chunk -/

/-- The buffers a chunk's computation works with: the input block, the context scratch and the accumulator. -/
def xPt (c : Dev nD) : sProp (MM F) := xM.view.loc (c : Thread nD τ) ↦{fullShare} (I.x c : xM.view.ty.Contents (Elt F))
def ctxFree (c : Dev nD) : sProp (MM F) := iprop(∃ f : ctxM.view.ty.Contents (Elt F), ctxM.view.loc (c : Thread nD τ) ↦{fullShare} f)
def outPt (c : Dev nD) (o : S2x256x512.Idx → Elt F .f32) : sProp (MM F) := outM.view.loc (c : Thread nD τ) ↦{fullShare} (o : outM.view.ty.Contents (Elt F))

theorem wp_headStore (c : Dev nD) (h : Fin 4) (w : FVec F S512x64 .bf16) (f : ctxM.view.ty.Contents (Elt F)) {k : P F PUnit} {Q : PUnit → sProp (MM F)} :
    (ctxM.view.loc (c : Thread nD τ) ↦{fullShare} f) ⊢ iprop(((ctxM.view.loc (c : Thread nD τ) ↦{fullShare} ((ctxM.access (headR h)).write (Elt F) f w Finset.univ)) -∗ WP c k Q)
      -∗ WP c (headStore h w k) Q) := by
  unfold headStore
  iintro H Hk
  iapply (wp_load V0 (c : Thread nD τ) none Set.univ (m := ctxM) (Finset.subset_univ _)) $$ H; iintro H
  iapply (wp_store V0 (c : Thread nD τ) none Set.univ (m := ctxM) (r := headR h) (Mk := Finset.univ) (Finset.subset_univ _)) $$ H; iintro H
  iapply Hk; iexact H

theorem hz2 : (![0, 0] : Fin 2 → ℕ) = fun _ => 0 := funext fun a => by fin_cases a <;> rfl
theorem hz3 : (![0, 0, 0] : Fin 3 → ℕ) = fun _ => 0 := funext fun a => by fin_cases a <;> rfl
abbrev outR : Rect S2x256x512 := Rect.unit (s := S2x256x512) ![0, 0, 0] S2x256x512.size inb_S2x256x512_S2x256x512_0_0_0
theorem read_out (f : outM.view.ty.Contents (Elt F)) :
    outM.view.readAt (Elt F) (Rect.unit (s := S2x256x512) ![0, 0, 0] S2x256x512.size inb_S2x256x512_S2x256x512_0_0_0).toLoadRect f = f :=
  Memref.readAt_unit_zero (Elt F) cc0_stg5_0 hz3 _ f
theorem read_x (f : xM.view.ty.Contents (Elt F)) :
    xM.view.readAt (Elt F) (Rect.unit (s := S2x256x512) ![0, 0, 0] S2x256x512.size inb_S2x256x512_S2x256x512_0_0_0).toLoadRect f = f :=
  Memref.readAt_unit_zero (Elt F) cc0_stg0_0 hz3 _ f
theorem read_ctx (f : ctxM.view.ty.Contents (Elt F)) :
    ctxM.view.readAt (Elt F) (Rect.unit (s := S512x256) ![0, 0] S512x256.size inb_S512x256_S512x256_0_0).toLoadRect f = f :=
  Memref.readAt_unit_zero (Elt F) cc0_scratch3 hz2 _ f
theorem write_out (f : outM.view.ty.Contents (Elt F)) (w : S2x256x512.Idx → Elt F .f32) :
    (outM.access (Rect.unit (s := S2x256x512) ![0, 0, 0] S2x256x512.size inb_S2x256x512_S2x256x512_0_0_0)).write (Elt F) f w Finset.univ = w :=
  Memref.write_access_unit_zero_univ (Elt F) cc0_stg5_0 hz3 _ f w

theorem kv_pair (c : Dev nD) (h : Fin 32) (p s i : Fin 2) : iprop(kvGot I c h p s i 0 ∗ kvGot I c h p s i 1)
    ⊣⊢ (kvM.view.loc (c : Thread nD τ) ↦[(pieceM p s i 0).view.set ∪ (pieceM p s i 1).view.set]{fullShare} kvW I c h : sProp (MM F)) :=
  (pointsTo_union (piece_disj p s i)).symm

/-- A chunk's computation adds its contribution to the accumulator. -/
theorem wp_chunk (c d : Dev nD) (b : Bool) (j p s : Fin 2) (q : PosShare TreeShare) (o : S2x256x512.Idx → Elt F .f32) {k : P F PUnit} {Q : PUnit → sProp (MM F)} :
    holds I c b j q d ⊢ iprop(xPt I c -∗ kvReady I c p s d -∗ ctxFree c -∗ outPt c o
      -∗ ((holds I c b j q d ∗ xPt I c ∗ kvReady I c p s d ∗ ctxFree c ∗ outPt c (acc I c d o)) -∗ WP c k Q)
      -∗ WP c (chunk b j p s k) Q) := by
  unfold holds xPt kvReady four ctxFree outPt chunk accum
  iintro Hc Hx ⟨⟨Hk0, Hk1, Hv0, Hv1⟩, Hs⟩ ⟨%f, Hf⟩ Ho Hk
  iapply (wp_load V0 (c : Thread nD τ) none Set.univ (m := cM b) (half_sub b j 0)) $$ Hc; iintro Hc
  rw [half_read0]
  iapply (wp_load V0 (c : Thread nD τ) none Set.univ (m := cM b) (half_sub b j 1)) $$ Hc; iintro Hc
  rw [half_read1]
  iapply (wp_load V0 (c : Thread nD τ) none Set.univ (m := xM) (Finset.subset_univ _)) $$ Hx; iintro Hx
  rw [read_x]
  ihave HK := (kv_pair I c d p s 0).1 $$ [Hk0 Hk1]
  · isplitl [Hk0] <;> iassumption
  ihave HV := (kv_pair I c d p s 1).1 $$ [Hv0 Hv1]
  · isplitl [Hv0] <;> iassumption
  iapply (wp_load V0 (c : Thread nD τ) none Set.univ (m := kvM) (pair_set p s 0)) $$ HK; iintro HK
  rw [pair_read0]
  iapply (wp_load V0 (c : Thread nD τ) none Set.univ (m := kvM) (pair_set p s 1)) $$ HV; iintro HV
  rw [pair_read1]
  ihave HK := (kv_pair I c d p s 0).2 $$ HK
  ihave HV := (kv_pair I c d p s 1).2 $$ HV
  icases HK with ⟨Hk0, Hk1⟩
  icases HV with ⟨Hv0, Hv1⟩
  iapply (wp_headStore c 0) $$ Hf; iintro Hf
  iapply (wp_headStore c 1) $$ Hf; iintro Hf
  iapply (wp_headStore c 2) $$ Hf; iintro Hf
  iapply (wp_headStore c 3) $$ Hf; iintro Hf
  rw [ctx_stored f fun h => headC h (k0_pay3 (wqH I d) (I.x c)) (k0_pay4 (kkH I c d)) (k0_pay4 (vvH I c d))]
  iapply (wp_load V0 (c : Thread nD τ) none Set.univ (m := outM) (Finset.subset_univ _)) $$ Ho; iintro Ho
  iapply (wp_load V0 (c : Thread nD τ) none Set.univ (m := ctxM) (Finset.subset_univ _)) $$ Hf; iintro Hf
  iapply (wp_load V0 (c : Thread nD τ) none Set.univ (m := outM) (Finset.subset_univ _)) $$ Ho; iintro Ho
  iapply (wp_store V0 (c : Thread nD τ) none Set.univ (m := outM) (r := outR) (Mk := Finset.univ) (Finset.subset_univ _)) $$ Ho; iintro Ho
  rw [read_out, read_ctx, write_out]
  iapply Hk
  isplitl [Hc]; · iexact Hc
  isplitl [Hx]; · iexact Hx
  isplitl [Hk0 Hk1 Hv0 Hv1 Hs]
  · isplitl [Hk0 Hk1 Hv0 Hv1]
    · isplitl [Hk0]; · iexact Hk0
      isplitl [Hk1]; · iexact Hk1
      isplitl [Hv0] <;> iassumption
    iexact Hs
  isplitl [Hf]; · iexists _; iexact Hf
  iexact Ho

/-! ## The first stores -/

def wqPt (c : Dev nD) : sProp (MM F) := wqM.view.loc (c : Thread nD τ) ↦{fullShare} (I.wq c : wqM.view.ty.Contents (Elt F))
def woPt (c : Dev nD) : sProp (MM F) := woM.view.loc (c : Thread nD τ) ↦{fullShare} (I.wo c : woM.view.ty.Contents (Elt F))
theorem read_wq (f : wqM.view.ty.Contents (Elt F)) :
    wqM.view.readAt (Elt F) (Rect.unit (s := S512x256) ![0, 0] S512x256.size inb_S512x256_S512x256_0_0).toLoadRect f = f :=
  Memref.readAt_unit_zero (Elt F) cc0_stg1_0 hz2 _ f
theorem read_wo (f : woM.view.ty.Contents (Elt F)) :
    woM.view.readAt (Elt F) (Rect.unit (s := S256x512) ![0, 0] S256x512.size inb_S256x512_S256x512_0_0).toLoadRect f = f :=
  Memref.readAt_unit_zero (Elt F) cc0_stg4_0 hz2 _ f

theorem wp_ownStore (c : Dev nD) (i : Fin 2) (w : FVec F S1x1x256x512 .bf16) (f : cfM.view.ty.Contents (Elt F)) {k : P F PUnit} {Q : PUnit → sProp (MM F)} :
    (cfM.view.loc (c : Thread nD τ) ↦[(slotM true 0).view.set]{fullShare} f)
      ⊢ iprop(((cfM.view.loc (c : Thread nD τ) ↦[(slotM true 0).view.set]{fullShare} ((cfM.access (halfR 0 i)).write (Elt F) f w Finset.univ)) -∗ WP c k Q)
        -∗ WP c (ownStore i w k) Q) := by
  unfold ownStore
  iintro H Hk
  iapply (wp_load V0 (c : Thread nD τ) none Set.univ (m := cfM) (half_sub true 0 i)) $$ H; iintro H
  iapply (wp_store V0 (c : Thread nD τ) none Set.univ (m := cfM) (r := halfR 0 i) (Mk := Finset.univ) (S := (slotM true 0).view.set)
    (by rw [View.setOn_univ, View.set_slice]; exact half_sub true 0 i)) $$ H; iintro H
  iapply Hk; iexact H

/-- The device's own chunk and the accumulator at zero. -/
theorem wp_start (c : Dev nD) {k : P F PUnit} {Q : PUnit → sProp (MM F)} :
    free c true 0 ⊢ iprop(wqPt I c -∗ woPt I c -∗ (∃ o, outPt c o)
      -∗ ((holds I c true 0 fullShare c ∗ wqPt I c ∗ woPt I c ∗ outPt c k0_pay55) -∗ WP c k Q) -∗ WP c (start k) Q) := by
  unfold free wqPt woPt outPt holds start
  iintro ⟨%f, Hc⟩ Hwq Hwo ⟨%o, Ho⟩ Hk
  ihave Hc := (show ((slotM true 0).view.loc (c : Thread nD τ) ↦[(slotM true 0).view.set]{fullShare} f)
    ⊢ (cfM.view.loc (c : Thread nD τ) ↦[(slotM true 0).view.set]{fullShare} (f : cfM.view.ty.Contents (Elt F)) : sProp (MM F)) from BI.Entails.refl _) $$ Hc
  iapply (wp_load V0 (c : Thread nD τ) none Set.univ (m := wqM) (Finset.subset_univ _)) $$ Hwq; iintro Hwq
  rw [read_wq]
  iapply (wp_ownStore c 0 (k0_pay53 (I.wq c)) f) $$ Hc; iintro Hc
  iapply (wp_load V0 (c : Thread nD τ) none Set.univ (m := woM) (Finset.subset_univ _)) $$ Hwo; iintro Hwo
  rw [read_wo]
  iapply (wp_ownStore c 1 (k0_pay54 (I.wo c))) $$ Hc; iintro Hc
  iapply (wp_load V0 (c : Thread nD τ) none Set.univ (m := outM) (Finset.subset_univ _)) $$ Ho; iintro Ho
  iapply (wp_store V0 (c : Thread nD τ) none Set.univ (m := outM) (r := outR) (Mk := Finset.univ) (Finset.subset_univ _)) $$ Ho; iintro Ho
  rw [write_out]
  iapply Hk
  isplitl [Hc]; · iapply (show (cfM.view.loc (c : Thread nD τ) ↦[(slotM true 0).view.set]{fullShare} _) ⊢ ((slotM true 0).view.loc (c : Thread nD τ) ↦[(slotM true 0).view.set]{fullShare} comC I true c : sProp (MM F))
      from Entails.of_eq (pointsTo_congr (own_stored I c f))); iexact Hc
  isplitl [Hwq]; · iexact Hwq
  isplitl [Hwo]; · iexact Hwo
  iexact Ho

end Cert.KernelIdeal.Attn

end
-- ==== Proof.Run.lean ====
/- The body's run: a step from one barrier to the next, the loop over the steps, and what comes before and after. -/
module

public import proofs.«01_k».proof.Proof.Comp
public import Idealize.SL.BI.BigOpNat

@[expose] public section

noncomputable section

namespace Cert.KernelIdeal.Attn

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (I : Ins F) (K : Dev nD × CK → ℕ)

/-! ## What a device holds between steps -/

def Pos (c : Dev nD) (s : ℕ) : sProp (MM F) := iprop(posS c true s ∗ posS c false s ∗ posR c true s ∗ posR c false s)
def Rch (c : Dev nD) (s : ℕ) : sProp (MM F) := iprop(rchR c true s ∗ rchR c false s)
def Got (c : Dev nD) (s : ℕ) : sProp (MM F) :=
  iprop(holds I c true (sl s) fullShare (chunkAt true c s) ∗ holds I c false (sl s) fullShare (chunkAt false c s))
def Pays (c : Dev nD) (r : ℕ) : sProp (MM F) := iprop(barPay c r true ∗ barPay c r false)
/-- The backward slot that is not handed over at the last barrier. -/
def keep (c : Dev nD) (r : ℕ) : sProp (MM F) := if r < 15 then iprop(emp) else free c false (sl (r + 1))
def toks (c : Dev nD) (s : ℕ) : sProp (MM F) :=
  iprop((bigSep (Finset.Ico s 16) fun t => iprop(xk c true t ∗ xc c true t)) ∗ (bigSep (Finset.Ico s 15) fun t => iprop(xk c false t ∗ xc c false t))
    ∗ bigSep (Finset.Ico (s + 1) 16) fun r => bk c r)
/-- The state after the barrier that ends step `n`. -/
def St (c : Dev nD) (n : ℕ) : sProp (MM F) :=
  iprop((Ow c (owes' c (n + 1)) ∗ Pos c (n + 2) ∗ Rch c (n + 2) ∗ posB c (n + 2) ∗ Got I c (n + 1) ∗ Pays c (n + 1) ∗ keep c (n + 1)) ∗ Pos c (n + 1) ∗ toks c (n + 1)
    ∗ kvBusy I c (sl (n + 1)) 0 (dn c (n + 1)) ∗ kvBusy I c (sl (n + 1)) 1 (up c (n + 1)) ∗ kvIdle I c (sl (n + 2)) 0 ∗ kvIdle I c (sl (n + 2)) 1
    ∗ xPt I c ∗ ctxFree c ∗ outPt c (outN I c n))

theorem toks_step (c : Dev nD) (s : ℕ) (h : s < 15) : toks (F := F) c s
    ⊢ iprop((xk c true s ∗ xc c true s) ∗ (xk c false s ∗ xc c false s) ∗ bk c (s + 1) ∗ toks c (s + 1)) := by
  unfold toks
  rw [bigSep_Ico_succ_bot (by omega : s < 16) fun t => iprop(xk c true t ∗ xc c true t), bigSep_Ico_succ_bot h fun t => iprop(xk c false t ∗ xc c false t),
    bigSep_Ico_succ_bot (by omega : s + 1 < 16) fun r => bk c r]
  iintro ⟨⟨H1, H2⟩, ⟨H3, H4⟩, H5, H6⟩
  isplitl [H1]; · iexact H1
  isplitl [H3]; · iexact H3
  isplitl [H5]; · iexact H5
  isplitl [H2]; · iexact H2
  isplitl [H4] <;> iassumption

theorem posB_out (c : Dev nD) (r : ℕ) : posB (F := F) c r ⊢ iprop(posB c r ∗ rchB c r) := by
  unfold posB rchB
  iintro ⟨H, #Hr⟩
  isplitl [H]
  · isplitl [H] <;> iassumption
  iexact Hr
theorem posS_out (c : Dev nD) (b : Bool) (t : ℕ) : posS (F := F) c b t ⊢ iprop(posS c b t ∗ reached ER (cell c (.send b (sl t))) (t / 2)) := by
  unfold posS
  iintro ⟨H, #Hr⟩
  isplitl [H]
  · isplitl [H] <;> iassumption
  iexact Hr
theorem holds_split (c : Dev nD) (b : Bool) (j : Fin 2) (q : PosShare TreeShare) (d : Dev nD) :
    holds I c b j q d ⊣⊢ iprop(holds I c b j q.left d ∗ holds I c b j q.right d) := pointsTo_share (PosShare.mem_left_op_right q)
theorem holds_free (c : Dev nD) (b : Bool) (j : Fin 2) (d : Dev nD) : holds I c b j fullShare d ⊢ free c b j := by
  unfold holds free; iintro H; iexists _; iexact H

theorem barPay_true (c : Dev nD) (r : ℕ) (h : r < 16) : iprop(free (F := F) c true (sl (r + 1)) ∗ rchR c true r) ⊢ barPay (prv c) r true := by
  unfold barPay rchR
  rw [if_pos (show r < lim true from h), show tgt true (prv c) = c from tgt_frm true c]
theorem barPay_false (c : Dev nD) (r : ℕ) : iprop(free (F := F) c false (sl (r + 1)) ∗ rchR c false r) ⊢ iprop(barPay (nxt c) r false ∗ keep c r) := by
  unfold barPay rchR keep
  by_cases h : r < 15
  · rw [if_pos (show r < lim false from h), if_pos h, show tgt false (nxt c) = c from tgt_frm false c]
    iintro H; isplitl [H]; · iexact H
    iempintro
  · rw [if_neg (show ¬ r < lim false from h), if_neg h]
    iintro ⟨H, -⟩; isplitr; · iempintro
    iexact H
theorem barPay_out (c : Dev nD) (b : Bool) (r : ℕ) (h : r < lim b) : barPay (F := F) c r b ⊢ iprop(free (tgt b c) b (sl (r + 1)) ∗ rchR (tgt b c) b r) := by
  unfold barPay rchR; rw [if_pos h]

/-! ## The end of a step -/

theorem wp_tail (c : Dev nD) (t : ℕ) (ht : t < 15) (j j' : Fin 2) (hj : j = sl t) (hj' : j' = sl (t + 1)) (b : Bool) {k : P F PUnit} {Q : PUnit → sProp (MM F)} :
    recs I K ⊢ iprop(Ow c (owes' c (t + 1) + (owB c true (t + 1) + owB c false (t + 1)))
      -∗ cred (tallyAt (cell c (.send true (sl t))) 0 NC) -∗ cred (tallyAt (cell c (.send false (sl t))) 0 NC)
      -∗ Pos c t -∗ xc c true t -∗ xc c false t -∗ posB c (t + 1) -∗ bk c (t + 1) -∗ Rch c (t + 1)
      -∗ (sendPay I c true t -∗ sendPay I c false t -∗ (free c true (sl t) ∗ free c false (sl t)))
      -∗ ((Ow c (owes' c (t + 1)) ∗ Pos c (t + 2) ∗ Rch c (t + 2) ∗ posB c (t + 2) ∗ Got I c (t + 1) ∗ Pays c (t + 1) ∗ keep c (t + 1)) -∗ WP c k Q)
      -∗ WP c (waits2 j j' b (barrier (prv c) (nxt c) k)) Q) := by
  subst hj hj'
  have hO : Above (2 * t + 2) (owes' c (t + 1) + (owB c true (t + 1) + owB c false (t + 1))) :=
    ((Above.owes' c (t + 1)).mono (by omega)).add ((Above.owB _ _ _ (by omega) (by omega)).add (Above.owB _ _ _ (by omega) (by omega)))
  unfold waits2 Pos Rch Got
  iintro #HR HO Hc1 Hc2 ⟨Hs1, Hs2, Hr1, Hr2⟩ Hx1 Hx2 Hb Hbk ⟨#Hq1, #Hq2⟩ Hback Hk
  iapply (wp_sent I K c true t (show t < 16 by omega) _ rfl true (sl (t + 1)) true (sl t) _ (hO.mono (by omega))) $$ HR Hc1 Hs1 HO
  iintro ⟨HO, Hs1, Hp1⟩
  iapply (wp_got I K c true t (show t < 16 by omega) _ rfl true (sl t) true (sl (t + 1)) _ hO) $$ HR Hx1 Hr1 HO
  iintro ⟨HO, Hr1, #Hq3, Hg1, #Hn1⟩
  iapply (wp_sent I K c false t ht _ rfl false (sl (t + 1)) b (sl t) _ (hO.mono (by omega))) $$ HR Hc2 Hs2 HO
  iintro ⟨HO, Hs2, Hp2⟩
  iapply (wp_got I K c false t ht _ rfl b (sl t) false (sl (t + 1)) _ hO) $$ HR Hx2 Hr2 HO
  iintro ⟨HO, Hr2, #Hq4, Hg2, #Hn2⟩
  ihave #Hn1 := (Entails.of_eq (show rchB (F := F) (frm true c) (t + 1) = rchB (prv c) (t + 1) from rfl)) $$ Hn1
  ihave #Hn2 := (Entails.of_eq (show rchB (F := F) (frm false c) (t + 1) = rchB (nxt c) (t + 1) from rfl)) $$ Hn2
  ihave Hf := Hback $$ Hp1 Hp2
  icases Hf with ⟨Hf1, Hf2⟩
  ihave Hb1 := (barPay_true c (t + 1) (by omega)) $$ [Hf1]
  · isplitl [Hf1]; · rw [show t + 1 + 1 = t + 2 from rfl, sl_add]; iexact Hf1
    iexact Hq1
  ihave Hb2 := (barPay_false c (t + 1)) $$ [Hf2]
  · isplitl [Hf2]; · rw [show t + 1 + 1 = t + 2 from rfl, sl_add]; iexact Hf2
    iexact Hq2
  icases Hb2 with ⟨Hb2, Hkeep⟩
  iapply (wp_barrier I K c (t + 1) (by omega) (owes' c (t + 1)) (Above.owes' c (t + 1))) $$ HR Hb1 Hb2 Hn1 Hn2 Hbk Hb HO
  iintro ⟨HO, Hb, Hpt, Hpf⟩
  iapply Hk
  isplitl [HO]; · iexact HO
  isplitl [Hs1 Hs2 Hr1 Hr2]
  · isplitl [Hs1]; · iexact Hs1
    isplitl [Hs2]; · iexact Hs2
    isplitl [Hr1] <;> iassumption
  isplitr
  · isplitr <;> iassumption
  isplitl [Hb]; · iexact Hb
  isplitl [Hg1 Hg2]; · isplitl [Hg1] <;> iassumption
  isplitr [Hkeep]
  · unfold Pays; isplitl [Hpt] <;> iassumption
  iexact Hkeep

theorem owes'_fst (c : Dev nD) (s : ℕ) (h : s < 15) :
    owes' c s = (owes' c (s + 1) + (owB c true (s + 1) + owB c false (s + 1)) + owX c false s) + owX c true s := by
  rw [owes'_step c s h]; ac_rfl

/-! ## A step -/

theorem wp_step (c : Dev nD) (n : ℕ) (hn : n < 14) (j j' : Fin 2) (hj : j = sl (n + 1)) (hj' : j' = sl (n + 2)) {k : P F PUnit} {Q : PUnit → sProp (MM F)} :
    recs I K ⊢ iprop(St I c n -∗ (St I c (n + 1) -∗ WP c k Q)
      -∗ WP c (step j j' (nxt c) (prv c) (prv c) (nxt c) (kvOff (dn c (n + 2))) (kvOff (up c (n + 2))) (kvOff (dn c (n + 1))) (kvOff (up c (n + 1))) k) Q) := by
  subst hj hj'
  unfold St step
  iintro #HR ⟨⟨HO, Hpos2, Hrch, Hb, Hg, Hp, Hkeep⟩, Hpos, Htok, Hkf, Hkb, Hif, Hib, Hx, Hctx, Hout⟩ Hk
  ihave Hg := (show Got I c (n + 1) ⊢ iprop(holds I c true (sl (n + 1)) fullShare (dn c (n + 1)) ∗ holds I c false (sl (n + 1)) fullShare (up c (n + 1))) from BI.Entails.refl _) $$ Hg
  icases Hg with ⟨Hg1, Hg2⟩
  ihave Hp := (show Pays (F := F) c (n + 1) ⊢ iprop(barPay c (n + 1) true ∗ barPay c (n + 1) false) from BI.Entails.refl _) $$ Hp
  icases Hp with ⟨Hp1, Hp2⟩
  ihave Htok := (toks_step c (n + 1) (by omega)) $$ Htok
  icases Htok with ⟨⟨Hxk1, Hxc1⟩, ⟨Hxk2, Hxc2⟩, Hbk, Htok⟩
  ihave HO := (Entails.of_eq (congrArg (Ow c) (owes'_fst c (n + 1) (by omega)))) $$ HO
  ihave Hg1 := (holds_split I c true (sl (n + 1)) fullShare _).1 $$ Hg1
  ihave Hg2 := (holds_split I c false (sl (n + 1)) fullShare _).1 $$ Hg2
  icases Hg1 with ⟨Hg1, Hh1⟩
  icases Hg2 with ⟨Hg2, Hh2⟩
  ihave Hp1 := (barPay_out c true (n + 1) (show n + 1 < 16 by omega)) $$ Hp1
  ihave Hp2 := (barPay_out c false (n + 1) (show n + 1 < 15 by omega)) $$ Hp2
  ihave Hpos := (show Pos c (n + 1) ⊢ iprop(posS c true (n + 1) ∗ posS c false (n + 1) ∗ posR c true (n + 1) ∗ posR c false (n + 1)) from BI.Entails.refl _) $$ Hpos
  icases Hpos with ⟨Hs1, Hs2, Hr1, Hr2⟩
  ihave Hs1 := (posS_out c true (n + 1)) $$ Hs1
  icases Hs1 with ⟨Hs1, #Hsr1⟩
  ihave Hs2 := (posS_out c false (n + 1)) $$ Hs2
  icases Hs2 with ⟨Hs2, #Hsr2⟩
  ihave Hb := (posB_out c (n + 2)) $$ Hb
  icases Hb with ⟨Hb, #Hbr⟩
  iapply (wp_copy I K c true true (n + 1) (show n + 1 < 16 by omega) (sl (n + 1)) (sl (n + 2)) rfl rfl (nxt c) rfl fullShare.left (dn c (n + 1)) rfl
    (by unfold sendPay; rw [if_neg (by simp)]; exact BI.Entails.refl _) _) $$ HR Hg1 Hp1 Hbr Hsr1 Hxk1 HO
  iintro ⟨Hc1, HO⟩
  iapply (wp_copy I K c false false (n + 1) (show n + 1 < 15 by omega) (sl (n + 1)) (sl (n + 2)) rfl rfl (prv c) rfl fullShare.left (up c (n + 1)) rfl
    (by unfold sendPay; rw [if_neg (by simp)]; exact BI.Entails.refl _) _) $$ HR Hg2 Hp2 Hbr Hsr2 Hxk2 HO
  iintro ⟨Hc2, HO⟩
  iapply (wp_kvPre I c (sl (n + 2)) 0 (dn c (n + 2))) $$ Hif
  iintro Hif
  iapply (wp_kvPre I c (sl (n + 2)) 1 (up c (n + 2))) $$ Hib
  iintro Hib
  have hO : Above 0 (owes' c (n + 1 + 1) + (owB c true (n + 1 + 1) + owB c false (n + 1 + 1))) :=
    ((Above.owes' c (n + 1 + 1)).mono (by omega)).add ((Above.owB _ _ _ (by omega) (by omega)).add (Above.owB _ _ _ (by omega) (by omega)))
  iapply (wp_kvWait I K c (sl (n + 1)) 0 (dn c (n + 1)) (dn c (n + 1)) _ hO) $$ HR Hkf HO
  iintro ⟨Hkf, HO⟩
  iapply (wp_chunk I c (dn c (n + 1)) true (sl (n + 1)) (sl (n + 1)) 0 fullShare.right (outN I c n)) $$ Hh1 Hx Hkf Hctx Hout
  iintro ⟨Hh1, Hx, Hkf, Hctx, Hout⟩
  iapply (wp_kvWait I K c (sl (n + 1)) 1 (up c (n + 1)) (up c (n + 1)) _ hO) $$ HR Hkb HO
  iintro ⟨Hkb, HO⟩
  iapply (wp_chunk I c (up c (n + 1)) false (sl (n + 1)) (sl (n + 1)) 1 fullShare.right _) $$ Hh2 Hx Hkb Hctx Hout
  iintro ⟨Hh2, Hx, Hkb, Hctx, Hout⟩
  ihave Hkf := (kvReady_idle I c (sl (n + 1)) 0 _) $$ Hkf
  ihave Hkb := (kvReady_idle I c (sl (n + 1)) 1 _) $$ Hkb
  iapply (wp_tail I K c (n + 1) (by omega) (sl (n + 1)) (sl (n + 2)) rfl rfl false) $$ HR HO Hc1 Hc2 [Hs1 Hs2 Hr1 Hr2] Hxc1 Hxc2 Hb Hbk Hrch [Hh1 Hh2]
  · unfold Pos
    isplitl [Hs1]; · iexact Hs1
    isplitl [Hs2]; · iexact Hs2
    isplitl [Hr1] <;> iassumption
  · iintro Hq1 Hq2
    ihave Hq1 := (show sendPay I c true (n + 1) ⊢ holds I c true (sl (n + 1)) fullShare.left (dn c (n + 1)) from Entails.of_eq (if_neg (by simp))) $$ Hq1
    ihave Hq2 := (show sendPay I c false (n + 1) ⊢ holds I c false (sl (n + 1)) fullShare.left (up c (n + 1)) from Entails.of_eq (if_neg (by simp))) $$ Hq2
    isplitl [Hq1 Hh1]
    · iapply (holds_free I c true (sl (n + 1)) (dn c (n + 1)))
      iapply (holds_split I c true (sl (n + 1)) fullShare _).2
      isplitl [Hq1] <;> iassumption
    · iapply (holds_free I c false (sl (n + 1)) (up c (n + 1)))
      iapply (holds_split I c false (sl (n + 1)) fullShare _).2
      isplitl [Hq2] <;> iassumption
  iintro Hst
  iapply Hk
  isplitl [Hst]; · iexact Hst
  isplitl [Hpos2]; · iexact Hpos2
  isplitl [Htok]; · iexact Htok
  isplitl [Hif]; · iexact Hif
  isplitl [Hib]; · iexact Hib
  isplitl [Hkf]; · rw [show n + 1 + 2 = (n + 1) + 2 from rfl, sl_add]; iexact Hkf
  isplitl [Hkb]; · rw [show n + 1 + 2 = (n + 1) + 2 from rfl, sl_add]; iexact Hkb
  isplitl [Hx]; · iexact Hx
  isplitl [Hctx]; · iexact Hctx
  iexact Hout

/-! ## The loop -/

theorem wp_done (c : Dev nD) (Q : PUnit → sProp (MM F)) : Q ⟨⟩ ⊢ WP c (.ret ⟨⟩) Q := by
  show _ ⊢ wp frame (wpE (defs₀ (F := F)) V0 (c : Thread nD τ) none) Set.univ (.ret ⟨⟩) Q
  rw [wp_ret]
  iintro H; imodintro; iexact H

theorem sl_even (t : ℕ) : sl (2 * t) = 0 := Fin.ext (by simp [sl])
theorem sl_odd (t : ℕ) : sl (2 * t + 1) = 1 := Fin.ext (show (2 * t + 1) % 2 = 1 by omega)

theorem wp_trip (c : Dev nD) (t : ℕ) (ht : t < 7) {Q : PUnit → sProp (MM F)} :
    recs I K ⊢ iprop(St I c (2 * t) -∗ (St I c (2 * t + 2) -∗ Q ⟨⟩) -∗ WP c (trip c t) Q) := by
  unfold trip
  iintro #HR Hst Hk
  iapply (wp_step I K c (2 * t) (by omega) 1 0 (sl_odd t).symm (sl_even (t + 1)).symm) $$ HR Hst
  iintro Hst
  iapply (wp_step I K c (2 * t + 1) (by omega) 0 1 (sl_even (t + 1)).symm (sl_odd (t + 1)).symm) $$ HR Hst
  iintro Hst
  iapply wp_done
  iapply Hk
  iexact Hst

/-! ## Before the loop -/

theorem dn_zero (c : Dev nD) : dn c 0 = c := by
  have : c.val < 32 := c.isLt
  exact Fin.ext (show (c.val + (32 - 0 % 32)) % 32 = c.val by omega)
theorem up_zero (c : Dev nD) : up c 0 = c := by
  have : c.val < 32 := c.isLt
  exact Fin.ext (show (c.val + 0) % 32 = c.val by omega)

/-- What a device starts with. -/
def Start (c : Dev nD) : sProp (MM F) :=
  iprop(Ow c (owes0 c) ∗ (Pos c 0 ∗ Rch c 0 ∗ Pos c 1 ∗ Rch c 1) ∗ (posB c 0 ∗ rchB (prv c) 0 ∗ rchB (nxt c) 0) ∗ (bk c 0 ∗ toks c 0)
    ∗ (free c true 0 ∗ free c true 1 ∗ free c false 0 ∗ free c false 1)
    ∗ (kvIdle I c 0 0 ∗ kvIdle I c 0 1 ∗ kvIdle I c 1 0 ∗ kvIdle I c 1 1)
    ∗ xPt I c ∗ wqPt I c ∗ woPt I c ∗ ctxFree c ∗ ∃ o, outPt c o)

theorem wp_prologue (c : Dev nD) {k : P F PUnit} {Q : PUnit → sProp (MM F)} :
    recs I K ⊢ iprop(Start I c -∗ ((St I c 0 ∗ wqPt I c ∗ woPt I c) -∗ WP c k Q)
      -∗ WP c (prologue (prv c) (nxt c) (nxt c) (prv c) (prv c) (nxt c) (kvOff (dn c 0)) (kvOff (dn c 1)) (kvOff (up c 1)) (kvOff (dn c 0)) k) Q) := by
  unfold Start prologue
  iintro #HR ⟨HO, ⟨Hpos, Hrch0, Hpos2, Hrch⟩, ⟨Hb, #Hn1, #Hn2⟩, ⟨Hbk0, Htok⟩, ⟨Hf0, Hf1, Hg0, Hg1⟩, ⟨Hi0, Hi1, Hi2, Hi3⟩, Hx, Hwq, Hwo, Hctx, Hout⟩ Hk
  ihave Hrch0 := (show Rch (F := F) c 0 ⊢ iprop(rchR c true 0 ∗ rchR c false 0) from BI.Entails.refl _) $$ Hrch0
  icases Hrch0 with ⟨#Hq1, #Hq2⟩
  ihave Hb1 := (barPay_true c 0 (by decide)) $$ [Hf1]
  · isplitl [Hf1]; · iexact Hf1
    iexact Hq1
  ihave Hb2 := (barPay_false c 0) $$ [Hg1]
  · isplitl [Hg1]; · iexact Hg1
    iexact Hq2
  icases Hb2 with ⟨Hb2, -⟩
  ihave HO := (show Ow (F := F) c (owes0 c) ⊢ Ow c (owes' c 0 + (owB c true 0 + owB c false 0)) from BI.Entails.refl _) $$ HO
  iapply (wp_barrier I K c 0 (by decide) (owes' c 0) (Above.owes' c 0)) $$ HR Hb1 Hb2 Hn1 Hn2 Hbk0 Hb HO
  iintro ⟨HO, Hb, Hp1, Hp2⟩
  iapply (wp_start I c) $$ Hf0 Hwq Hwo Hout
  iintro ⟨Hc, Hwq, Hwo, Hout⟩
  ihave Hc := (show holds I c true 0 fullShare c ⊢ holds I c true 0 fullShare (dn c 0) from Entails.of_eq (by rw [dn_zero])) $$ Hc
  iapply (wp_kvPre I c 0 0 (dn c 0)) $$ Hi0
  iintro Hi0
  iapply (wp_kvPre I c 1 0 (dn c 1)) $$ Hi2
  iintro Hi2
  iapply (wp_kvPre I c 1 1 (up c 1)) $$ Hi3
  iintro Hi3
  ihave Htok := (toks_step c 0 (by omega)) $$ Htok
  icases Htok with ⟨⟨Hxk1, Hxc1⟩, ⟨Hxk2, Hxc2⟩, Hbk, Htok⟩
  ihave HO := (Entails.of_eq (congrArg (Ow c) (owes'_fst c 0 (by omega)))) $$ HO
  ihave Hc := (holds_split I c true 0 fullShare _).1 $$ Hc
  icases Hc with ⟨Hl, Hc⟩
  ihave Hc := (holds_split I c true 0 fullShare.right _).1 $$ Hc
  icases Hc with ⟨Hl2, Hc⟩
  ihave Hp1 := (barPay_out c true 0 (by decide)) $$ Hp1
  ihave Hp2 := (barPay_out c false 0 (by decide)) $$ Hp2
  ihave Hpos := (show Pos c 0 ⊢ iprop(posS c true 0 ∗ posS c false 0 ∗ posR c true 0 ∗ posR c false 0) from BI.Entails.refl _) $$ Hpos
  icases Hpos with ⟨Hs1, Hs2, Hr1, Hr2⟩
  ihave Hs1 := (posS_out c true 0) $$ Hs1
  icases Hs1 with ⟨Hs1, #Hsr1⟩
  ihave Hs2 := (posS_out c false 0) $$ Hs2
  icases Hs2 with ⟨Hs2, #Hsr2⟩
  ihave Hb := (posB_out c 1) $$ Hb
  icases Hb with ⟨Hb, #Hbr⟩
  iapply (wp_copy I K c true true 0 (by decide) 0 1 rfl rfl (nxt c) rfl fullShare.left (dn c 0) rfl
    (by unfold sendPay; rw [if_neg (by simp)]; exact BI.Entails.refl _) _) $$ HR Hl Hp1 Hbr Hsr1 Hxk1 HO
  iintro ⟨Hc1, HO⟩
  iapply (wp_copy I K c false true 0 (by decide) 0 1 rfl rfl (prv c) rfl fullShare.right.left (dn c 0) ((dn_zero c).trans (up_zero c).symm)
    (by unfold sendPay; rw [if_pos ⟨rfl, rfl⟩]; exact BI.Entails.refl _) _) $$ HR Hl2 Hp2 Hbr Hsr2 Hxk2 HO
  iintro ⟨Hc2, HO⟩
  have hO : Above 0 (owes' c (0 + 1) + (owB c true (0 + 1) + owB c false (0 + 1))) :=
    ((Above.owes' c (0 + 1)).mono (by omega)).add ((Above.owB _ _ _ (by omega) (by omega)).add (Above.owB _ _ _ (by omega) (by omega)))
  iapply (wp_kvWait I K c 0 0 (dn c 0) (dn c 0) _ hO) $$ HR Hi0 HO
  iintro ⟨Hi0, HO⟩
  iapply (wp_chunk I c (dn c 0) true 0 0 0 fullShare.right.right k0_pay55) $$ Hc Hx Hi0 Hctx Hout
  iintro ⟨Hc, Hx, Hi0, Hctx, Hout⟩
  ihave Hi0 := (kvReady_idle I c 0 0 _) $$ Hi0
  iapply (wp_tail I K c 0 (by omega) 0 1 rfl rfl true) $$ HR HO Hc1 Hc2 [Hs1 Hs2 Hr1 Hr2] Hxc1 Hxc2 Hb Hbk Hrch [Hc Hg0]
  · unfold Pos
    isplitl [Hs1]; · iexact Hs1
    isplitl [Hs2]; · iexact Hs2
    isplitl [Hr1] <;> iassumption
  · iintro Hq1 Hq2
    ihave Hq1 := (show sendPay I c true 0 ⊢ holds I c true 0 fullShare.left (dn c 0) from Entails.of_eq (if_neg (by simp))) $$ Hq1
    ihave Hq2 := (show sendPay I c false 0 ⊢ holds I c true 0 fullShare.right.left (dn c 0) from Entails.of_eq (if_pos ⟨rfl, rfl⟩)) $$ Hq2
    isplitr [Hg0]
    · iapply (show free c true 0 ⊢ free (F := F) c true (sl 0) from BI.Entails.refl _)
      iapply (holds_free I c true 0 (dn c 0))
      iapply (holds_split I c true 0 fullShare _).2
      isplitl [Hq1]; · iexact Hq1
      iapply (holds_split I c true 0 fullShare.right _).2
      isplitl [Hq2] <;> iassumption
    · iapply (show free c false 0 ⊢ free (F := F) c false (sl 0) from BI.Entails.refl _)
      iexact Hg0
  iintro Hst
  iapply Hk
  unfold St
  isplitr [Hwq Hwo]
  · isplitl [Hst]; · iexact Hst
    isplitl [Hpos2]; · iexact Hpos2
    isplitl [Htok]; · iexact Htok
    isplitl [Hi2]; · iexact Hi2
    isplitl [Hi3]; · iexact Hi3
    isplitl [Hi0]; · iexact Hi0
    isplitl [Hi1]; · iexact Hi1
    isplitl [Hx]; · iexact Hx
    isplitl [Hctx]; · iexact Hctx
    iexact Hout
  · isplitl [Hwq] <;> iassumption

/-! ## After the loop -/

/-- What a device ends with. -/
def Done (c : Dev nD) : sProp (MM F) :=
  iprop(Ow c 0 ∗ posB c 16 ∗ (posS c true 17 ∗ posR c true 17 ∗ posS c false 15 ∗ posR c false 15) ∗ Pos c 16
    ∗ (free c true 0 ∗ free c true 1 ∗ free c false 0 ∗ free c false 1)
    ∗ (kvIdle I c 0 0 ∗ kvIdle I c 0 1 ∗ kvIdle I c 1 0 ∗ kvIdle I c 1 1)
    ∗ xPt I c ∗ ctxFree c ∗ outPt c (outF I c))

theorem toks_last (c : Dev nD) : toks (F := F) c 15 ⊢ iprop(xk c true 15 ∗ xc c true 15) := by
  unfold toks
  rw [bigSep_Ico_succ_bot (by omega : 15 < 16) fun t => iprop(xk c true t ∗ xc c true t)]
  iintro ⟨⟨H1, -⟩, -, -⟩
  iexact H1

theorem wp_epilogue (c : Dev nD) {Q : PUnit → sProp (MM F)} :
    recs I K ⊢ iprop(St I c 14 -∗ (Done I c -∗ Q ⟨⟩)
      -∗ WP c (epilogue (nxt c) (kvOff (dn c 16)) (kvOff (dn c 15)) (kvOff (up c 15)) (.ret ⟨⟩)) Q) := by
  unfold St epilogue
  iintro #HR ⟨⟨HO, Hpos2, Hrch, Hb, Hg, Hp, Hkeep⟩, Hpos, Htok, Hkf, Hkb, Hif, Hib, Hx, Hctx, Hout⟩ Hk
  ihave Hg := (show Got I c 15 ⊢ iprop(holds I c true 1 fullShare (dn c 15) ∗ holds I c false 1 fullShare (up c 15)) from BI.Entails.refl _) $$ Hg
  icases Hg with ⟨Hg1, Hg2⟩
  ihave Hp := (show Pays (F := F) c 15 ⊢ iprop(barPay c 15 true ∗ barPay c 15 false) from BI.Entails.refl _) $$ Hp
  icases Hp with ⟨Hp1, -⟩
  ihave Hkeep := (show keep (F := F) c 15 ⊢ free c false 0 from Entails.of_eq (if_neg (by decide))) $$ Hkeep
  ihave Htok := (toks_last c) $$ Htok
  icases Htok with ⟨Hxk1, Hxc1⟩
  ihave HO := (Entails.of_eq (congrArg (Ow c) ((owes'_last c).trans (zero_add _).symm))) $$ HO
  ihave Hg1 := (holds_split I c true 1 fullShare _).1 $$ Hg1
  icases Hg1 with ⟨Hg1, Hh1⟩
  ihave Hp1 := (barPay_out c true 15 (by decide)) $$ Hp1
  ihave Hpos := (show Pos c 15 ⊢ iprop(posS c true 15 ∗ posS c false 15 ∗ posR c true 15 ∗ posR c false 15) from BI.Entails.refl _) $$ Hpos
  icases Hpos with ⟨Hs1, Hs2, Hr1, Hr2⟩
  ihave Hs1 := (posS_out c true 15) $$ Hs1
  icases Hs1 with ⟨Hs1, #Hsr1⟩
  ihave Hb := (posB_out c 16) $$ Hb
  icases Hb with ⟨Hb, #Hbr⟩
  iapply (wp_copy I K c true true 15 (by decide) 1 0 rfl rfl (nxt c) rfl fullShare.left (dn c 15) rfl
    (by unfold sendPay; rw [if_neg (by simp)]; exact BI.Entails.refl _) 0) $$ HR Hg1 Hp1 Hbr Hsr1 Hxk1 HO
  iintro ⟨Hc1, HO⟩
  ihave Hif := (show kvIdle I c (sl 16) 0 ⊢ kvIdle I c 0 0 from BI.Entails.refl _) $$ Hif
  ihave Hib := (show kvIdle I c (sl 16) 1 ⊢ kvIdle I c 0 1 from BI.Entails.refl _) $$ Hib
  ihave Hkf := (show kvBusy I c (sl 15) 0 (dn c 15) ⊢ kvBusy I c 1 0 (dn c 15) from BI.Entails.refl _) $$ Hkf
  ihave Hkb := (show kvBusy I c (sl 15) 1 (up c 15) ⊢ kvBusy I c 1 1 (up c 15) from BI.Entails.refl _) $$ Hkb
  iapply (wp_kvPre I c 0 0 (dn c 16)) $$ Hif
  iintro Hif
  iapply (wp_kvWait I K c 1 0 (dn c 15) (dn c 15) 0 (Above.zero _)) $$ HR Hkf HO
  iintro ⟨Hkf, HO⟩
  iapply (wp_chunk I c (dn c 15) true 1 1 0 fullShare.right (outN I c 14)) $$ Hh1 Hx Hkf Hctx Hout
  iintro ⟨Hh1, Hx, Hkf, Hctx, Hout⟩
  iapply (wp_kvWait I K c 1 1 (up c 15) (up c 15) 0 (Above.zero _)) $$ HR Hkb HO
  iintro ⟨Hkb, HO⟩
  iapply (wp_chunk I c (up c 15) false 1 1 1 fullShare _) $$ Hg2 Hx Hkb Hctx Hout
  iintro ⟨Hg2, Hx, Hkb, Hctx, Hout⟩
  ihave Hkf := (kvReady_idle I c 1 0 _) $$ Hkf
  ihave Hkb := (kvReady_idle I c 1 1 _) $$ Hkb
  iapply (wp_sent I K c true 15 (by decide) _ rfl true 0 true 1 0 (Above.zero _)) $$ HR Hc1 Hs1 HO
  iintro ⟨HO, Hs1, Hq1⟩
  iapply (wp_got I K c true 15 (by decide) _ rfl true 1 true 0 0 (Above.zero _)) $$ HR Hxc1 Hr1 HO
  iintro ⟨HO, Hr1, -, Hl, -⟩
  iapply (wp_kvWait I K c 0 0 (dn c 16) (dn c 16) 0 (Above.zero _)) $$ HR Hif HO
  iintro ⟨Hif, HO⟩
  ihave Hl := (show holds I c true (sl (15 + 1)) fullShare (chunkAt true c (15 + 1)) ⊢ holds I c true 0 fullShare (dn c 16) from BI.Entails.refl _) $$ Hl
  iapply (wp_chunk I c (dn c 16) true 0 0 0 fullShare _) $$ Hl Hx Hif Hctx Hout
  iintro ⟨Hl, Hx, Hif, Hctx, Hout⟩
  ihave Hif := (kvReady_idle I c 0 0 _) $$ Hif
  iapply wp_done
  iapply Hk
  unfold Done
  isplitl [HO]; · iexact HO
  isplitl [Hb]; · iexact Hb
  isplitl [Hs1 Hs2 Hr1 Hr2]
  · isplitl [Hs1]; · iexact Hs1
    isplitl [Hr1]; · iexact Hr1
    isplitl [Hs2] <;> iassumption
  isplitl [Hpos2]; · iexact Hpos2
  isplitl [Hl Hq1 Hh1 Hkeep Hg2]
  · isplitl [Hl]; · iapply (holds_free I c true 0 (dn c 16)); iexact Hl
    isplitl [Hq1 Hh1]
    · ihave Hq1 := (show sendPay I c true 15 ⊢ holds I c true 1 fullShare.left (dn c 15) from Entails.of_eq (if_neg (by simp))) $$ Hq1
      iapply (holds_free I c true 1 (dn c 15))
      iapply (holds_split I c true 1 fullShare _).2
      isplitl [Hq1] <;> iassumption
    isplitl [Hkeep]; · iexact Hkeep
    iapply (holds_free I c false 1 (up c 15)); iexact Hg2
  isplitl [Hif Hib Hkf Hkb]
  · isplitl [Hif]; · iexact Hif
    isplitl [Hib]; · iexact Hib
    isplitl [Hkf] <;> iassumption
  isplitl [Hx]; · iexact Hx
  isplitl [Hctx]; · iexact Hctx
  iexact Hout

theorem wp_dev (c : Dev nD) (k : Dev nD → P F PUnit) (Q : PUnit → sProp (MM F)) : WP c (k c) Q ⊢ WP c (.op .deviceId k) Q := by
  show _ ⊢ wp frame (wpE (defs₀ (F := F)) V0 (c : Thread nD τ) none) Set.univ (.op .deviceId k) Q
  rw [wp_deviceId]

/-- The whole body. -/
theorem wp_body (c : Dev nD) {Q : PUnit → sProp (MM F)} :
    recs I K ⊢ iprop(Start I c -∗ ((Done I c ∗ wqPt I c ∗ woPt I c) -∗ Q ⟨⟩) -∗ WP c bodyPr Q) := by
  rw [body_eq]
  unfold body
  iintro #HR Hst Hk
  iapply wp_dev
  iapply (wp_prologue I K c) $$ HR Hst
  iintro ⟨Hst, Hw⟩
  iapply (Scf.wp_for_bind frame (wpE (defs₀ (F := F)) V0 (c : Thread nD τ) none) Set.univ k0_t1_loop.lb k0_t1_loop.ub k0_t1_loop.st k0_t1_ok ()
    (fun t _ => trip c t.val) (fun n _ => iprop(recs I K ∗ St I c (2 * n)))
    (fun t _ => by
      iintro ⟨#HR, Hst⟩
      iapply (wp_trip I K c t.val (trips_lt t)) $$ HR Hst
      iintro Hst
      isplitr; · iexact HR
      iexact Hst)) $$ [Hst]
  · isplitr; · iexact HR
    iexact Hst
  iintro %_
  rw [show Scf.trips k0_t1_loop.lb k0_t1_loop.ub k0_t1_loop.st = 7 by decide]
  iintro ⟨-, Hst⟩
  iapply (wp_epilogue I K c) $$ HR Hst
  iintro Hd
  iapply Hk
  isplitl [Hd] <;> iassumption

end Cert.KernelIdeal.Attn

end
-- ==== Proof.Ghost.lean ====
/- The launch of the protocol: the cells' ghost state, dealt around the ring, and the credits. -/
module

public import proofs.«01_k».proof.Proof.Run
public import Idealize.ShloMosaic.Lib.Pipeline.Launch

@[expose] public section

noncomputable section

namespace Cert.KernelIdeal.Attn

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (I : Ins F)

/-! ## Cells and tokens -/

abbrev kcell (x : Dev nD × CK) : GSem nD τ sig := cell x.1 x.2
theorem kcell_inj : Function.Injective kcell := fun a b h => Prod.ext (cell_inj h).1 (cell_inj h).2
def ringCells : Finset (GSem nD τ sig) := Finset.univ.map ⟨kcell, kcell_inj⟩

/-- A token: of a barrier, a send or a receive cell; by duty or direction; by round or step. -/
abbrev TK : Type := Fin 3 × Bool × Fin 16
def kk (j : Fin 3) (b : Bool) (t : ℕ) : CK := if j = 0 then .bar else if j = 1 then .send b (sl t) else .recv b (sl (t + 1))
def rr (j : Fin 3) (t : ℕ) : ℕ := if j = 0 then t else t / 2
def dd (j : Fin 3) (b : Bool) : Bool := if j = 0 then b else true
def tokOf (x : Dev nD × TK) : GSem nD τ sig × ℕ × Bool := (cell x.1 (kk x.2.1 x.2.2.1 x.2.2.2.val), rr x.2.1 x.2.2.2.val, dd x.2.1 x.2.2.1)
theorem tokOf_inj : Function.Injective tokOf := by
  rintro ⟨c, j, b, t⟩ ⟨c', j', b', t'⟩ h
  obtain ⟨h1, h2⟩ := Prod.mk.inj h
  obtain ⟨h2, h3⟩ := Prod.mk.inj h2
  obtain ⟨rfl, hk⟩ := cell_inj h1
  have sle : ∀ {a a' : ℕ}, sl a = sl a' → a % 2 = a' % 2 := fun h => congrArg Fin.val h
  fin_cases j <;> fin_cases j' <;> simp [kk, rr, dd] at hk h2 h3 <;> try exact hk.elim
  · rw [Fin.ext h2, h3]
  · have := sle hk.2; rw [hk.1, Fin.ext (show t.val = t'.val by omega)]
  · have := sle hk.2; rw [hk.1, Fin.ext (show t.val = t'.val by omega)]
def ringToks : Finset (GSem nD τ sig × ℕ × Bool) := Finset.univ.map ⟨tokOf, tokOf_inj⟩

def u0 : UU := (initOf (Pipeline.cells cfgs cellOf_inj) (Pipeline.launchToks cfgs cellOf_inj), (initOf ringCells ringToks, 1))

omit [FloatOps F] in
theorem ownU_split (a : UR sig nD τ) (b : UB) : (ownU ((a, (b, 1)) : UU) : sProp (MM F)) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

def tok (c : Dev nD) (k : CK) (r : ℕ) (d : Bool) : sProp (MM F) := dutyTok ER (cell c k) r d
/-- The tokens of a device's own cells, by round or step. -/
def ownToks (c : Dev nD) : sProp (MM F) :=
  bigSep (Finset.range 16) fun t => iprop((tok c .bar t true ∗ tok c .bar t false)
    ∗ (tok c (.send true (sl t)) (t / 2) true ∗ tok c (.send false (sl t)) (t / 2) true)
    ∗ (tok c (.recv true (sl (t + 1))) (t / 2) true ∗ tok c (.recv false (sl (t + 1))) (t / 2) true))

/-- What the launch deals a device: its cells' states, its places at them, and their tokens. -/
def G (c : Dev nD) : sProp (MM F) :=
  iprop((bigSep Finset.univ fun k : CK => roundState ER (Rd I) (cell c k) 0)
    ∗ (bigSep Finset.univ fun k : CK => iprop(atPos ER (cell c k) 0 ∅ 0 ∗ reached ER (cell c k) 0)) ∗ ownToks c)

omit [FloatOps F] in
theorem bigSep_bool (Φ : Bool → sProp (MM F)) : bigSep Finset.univ Φ = iprop(Φ true ∗ Φ false) := bigSep_univ_eq_bigSepL [true, false] (by decide) (by decide) Φ
omit [FloatOps F] in
theorem bigSep_fin3 (Φ : Fin 3 → sProp (MM F)) : bigSep Finset.univ Φ = iprop(Φ 0 ∗ Φ 1 ∗ Φ 2) := bigSep_univ_eq_bigSepL [0, 1, 2] (by decide) (by decide) Φ
omit [FloatOps F] in
theorem bigSep_16 (Φ : ℕ → sProp (MM F)) : bigSep Finset.univ (fun t : Fin 16 => Φ t.val) = bigSep (Finset.range 16) Φ := by
  rw [show Finset.range 16 = (Finset.univ : Finset (Fin 16)).map Fin.valEmbedding by decide, bigSep_map]; rfl

omit [FloatOps F] in
theorem ownToks_eq (c : Dev nD) : bigSep Finset.univ (fun x : TK => (dutyTok ER (tokOf (c, x)).1 (tokOf (c, x)).2.1 (tokOf (c, x)).2.2 : sProp (MM F))) = ownToks c := by
  rw [bigSep_univ_prod, bigSep_fin3]
  simp only [bigSep_univ_prod, bigSep_bool]
  unfold ownToks
  simp only [bigSep_sep', ← bigSep_16]
  rfl

theorem fund_ring : BI.own (ER (initOf ringCells ringToks)) ⊢ (|==> bigSep Finset.univ (G I) : sProp (MM F)) := by
  have hX (Φ : GSem nD τ sig → sProp (MM F)) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp (MM F))) = bigSep Finset.univ fun c : Dev nD => ownToks c := by
    unfold ringToks; rw [bigSep_map, bigSep_univ_prod]
    exact bigSep_congr fun c _ => ownToks_eq c
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells allocated -/

/-- The kernel's own semaphores. -/
abbrev osem : Fin 12 → SemLoc sig := fun
  | 0 => csem (.send true 0) | 1 => csem (.send true 1) | 2 => csem (.send false 0) | 3 => csem (.send false 1)
  | 4 => csem (.recv true 0) | 5 => csem (.recv true 1) | 6 => csem (.recv false 0) | 7 => csem (.recv false 1)
  | 8 => .dma (kvSem 0 0) | 9 => .dma (kvSem 0 1) | 10 => .dma (kvSem 1 0) | 11 => .dma (kvSem 1 1)
theorem ownSemFacts : Pipeline.OwnSemFacts cfg0.spec osem := by decide

def kvCells (c : Dev nD) : sProp (MM F) := iprop(kvCell c 0 0 ∗ kvCell c 0 1 ∗ kvCell c 1 0 ∗ kvCell c 1 1)
def dmaCells (c : Dev nD) : sProp (MM F) :=
  iprop((semVal (cell c (.send true 0)) 0 ∗ semVal (cell c (.send true 1)) 0 ∗ semVal (cell c (.send false 0)) 0 ∗ semVal (cell c (.send false 1)) 0)
    ∗ semVal (cell c (.recv true 0)) 0 ∗ semVal (cell c (.recv true 1)) 0 ∗ semVal (cell c (.recv false 0)) 0 ∗ semVal (cell c (.recv false 1)) 0)

abbrev ownS (c : Dev nD) : sProp (MM F) := Pipeline.ownSems0 (Ix := ℕ) (Name := ℕ) (U := UU) (Lvl := ℕ) (Val := Elt F) (τ := τ) osem c
omit [FloatOps F] in
theorem ownSems0_eq (c : Dev nD) : (ownS c : sProp (MM F)) ⊣⊢ iprop(dmaCells c ∗ kvCells c) := by
  unfold ownS dmaCells kvCells kvCell
  rw [Pipeline.ownSems0_eq_of_list c osem [0, 1, 2, 3, 4, 5, 6, 7, 8, 9, 10, 11] (by decide) (by decide)]
  show iprop(semVal (cell c (.send true 0)) 0 ∗ semVal (cell c (.send true 1)) 0 ∗ semVal (cell c (.send false 0)) 0 ∗ semVal (cell c (.send false 1)) 0
    ∗ semVal (cell c (.recv true 0)) 0 ∗ semVal (cell c (.recv true 1)) 0 ∗ semVal (cell c (.recv false 0)) 0 ∗ semVal (cell c (.recv false 1)) 0
    ∗ semVal ((c : Thread nD τ), SemLoc.dma (kvSem 0 0)) 0 ∗ semVal ((c : Thread nD τ), SemLoc.dma (kvSem 0 1)) 0
    ∗ semVal ((c : Thread nD τ), SemLoc.dma (kvSem 1 0)) 0 ∗ semVal ((c : Thread nD τ), SemLoc.dma (kvSem 1 1)) 0) ⊣⊢ (_ : sProp (MM F))
  constructor
  · iintro ⟨H0, H1, H2, H3, H4, H5, H6, H7, H8, H9, H10, H11⟩; iframe
  · iintro ⟨⟨⟨H0, H1, H2, H3⟩, H4, H5, H6, H7⟩, H8, H9, H10, H11⟩; iframe
omit [FloatOps F] in
theorem unscopedSems0_eq (c : Dev nD) : (unscopedSems0 c : sProp (MM F)) = semVal (cell c .bar) 0 := by
  unfold unscopedSems0; rw [bigSep_eq_bigSepL_of_eq [SemLoc.reg barSem] (by decide) (by decide)]; rfl

omit [FloatOps F] in
theorem bigSep_CK (Φ : CK → sProp (MM F)) : bigSep Finset.univ Φ = iprop(Φ .bar ∗ Φ (.send true 0) ∗ Φ (.send true 1) ∗ Φ (.send false 0) ∗ Φ (.send false 1)
    ∗ Φ (.recv true 0) ∗ Φ (.recv true 1) ∗ Φ (.recv false 0) ∗ Φ (.recv false 1)) := bigSep_univ_eq_bigSepL ckAll (by decide) (by decide) Φ

theorem core_alloc (c : Dev nD) :
    iprop(ownS c ∗ unscopedSems0 c ∗ G I c)
      ⊢ |={Set.univ}=> iprop((bigSep Finset.univ fun k => iprop(∃ κ : ℕ, cellInv ER (Rd I) κ (cell c k)))
          ∗ (bigSep Finset.univ fun k => iprop(atPos ER (cell c k) 0 ∅ 0 ∗ reached ER (cell c k) 0)) ∗ ownToks c ∗ kvCells c) := by
  unfold G
  rw [unscopedSems0_eq]
  iintro ⟨Hos, Hb, Hst, Hat, Htok⟩
  ihave Hos := (ownSems0_eq (F := F) c).1 $$ Hos
  icases Hos with ⟨Hd, Hkv⟩
  ihave Hv := (show iprop(semVal (cell c .bar) 0 ∗ dmaCells c) ⊢ (bigSep Finset.univ fun k : CK => semVal (cell c k) 0 : sProp (MM F)) from by
    rw [bigSep_CK]; unfold dmaCells
    iintro ⟨Hb, ⟨H0, H1, H2, H3⟩, H4, H5, H6, H7⟩; iframe) $$ [Hb Hd]
  · isplitl [Hb] <;> iassumption
  imod (show iprop((bigSep Finset.univ fun k : CK => semVal (cell c k) 0) ∗ bigSep Finset.univ fun k : CK => roundState ER (Rd I) (cell c k) 0)
      ⊢ (|={Set.univ}=> bigSep Finset.univ fun k => iprop(∃ κ : ℕ, cellInv ER (Rd I) κ (cell c k)) : sProp (MM F)) from by
        rw [← bigSep_sep']
        exact (bigSep_mono fun k _ => (Rounds.body_intro ER (Rd I) (cell c k)).trans inv_alloc).trans (bigSep_fupd _ _)) $$ [Hv Hst] with Hinv
  · isplitl [Hv] <;> iassumption
  imodintro
  iframel

def invs (K : Dev nD × CK → ℕ) : sProp (MM F) := bigSep Finset.univ fun x : Dev nD × CK => cellInv ER (Rd I) (K x) (cell x.1 x.2)
instance invs_persistent (K : Dev nD × CK → ℕ) : BI.Persistent (invs I K) := by unfold invs; infer_instance
def rchs : sProp (MM F) := bigSep Finset.univ fun x : Dev nD × CK => reached ER (cell x.1 x.2) 0
instance rchs_persistent : BI.Persistent (rchs (F := F)) := by unfold rchs; infer_instance
omit [FloatOps F] in
theorem rchs_at (c : Dev nD) (k : CK) : (rchs : sProp (MM F)) ⊢ reached ER (cell c k) 0 := by
  unfold rchs; exact BI.bigSep_elim (Finset.mem_univ (c, k))

/-- The tokens of what a device does, by round or step. -/
def payToks (c : Dev nD) : sProp (MM F) :=
  bigSep (Finset.range 16) fun t => iprop((tok (prv c) .bar t true ∗ tok (nxt c) .bar t false)
    ∗ (tok c (.send true (sl t)) (t / 2) true ∗ tok c (.send false (sl t)) (t / 2) true)
    ∗ (tok (nxt c) (.recv true (sl (t + 1))) (t / 2) true ∗ tok (prv c) (.recv false (sl (t + 1))) (t / 2) true))
def atAll (c : Dev nD) : sProp (MM F) := bigSep Finset.univ fun k : CK => atPos ER (cell c k) 0 ∅ 0
/-- What the global step makes of it. -/
def G' (c : Dev nD) : sProp (MM F) := iprop((∃ K, invs I K) ∗ rchs ∗ atAll c ∗ payToks c ∗ kvCells c)

def ring : Dev nD ≃ Dev nD where
  toFun c := nxt c
  invFun c := prv c
  left_inv c := frm_tgt true c
  right_inv c := tgt_frm true c

omit [FloatOps F] in
theorem toks_around : (bigSep Finset.univ fun c : Dev nD => (ownToks c : sProp (MM F))) ⊢ bigSep Finset.univ fun c : Dev nD => payToks c := by
  unfold ownToks payToks
  simp only [bigSep_sep']
  rw [bigSep_univ_equiv ring.symm (fun c : Dev nD => bigSep (Finset.range 16) fun t => (tok c .bar t true : sProp (MM F))),
    bigSep_univ_equiv ring (fun c : Dev nD => bigSep (Finset.range 16) fun t => (tok c .bar t false : sProp (MM F))),
    bigSep_univ_equiv ring (fun c : Dev nD => bigSep (Finset.range 16) fun t => (tok c (.recv true (sl (t + 1))) (t / 2) true : sProp (MM F))),
    bigSep_univ_equiv ring.symm (fun c : Dev nD => bigSep (Finset.range 16) fun t => (tok c (.recv false (sl (t + 1))) (t / 2) true : sProp (MM F)))]
  exact BI.Entails.refl _

omit [FloatOps F] in
theorem bigSep_with {A : Type} [DecidableEq A] {S : Finset A} {R : sProp (MM F)} [BI.Persistent R] {Φ Ψ : A → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd I) κ (cell c k)))
          ∗ (bigSep Finset.univ fun k => iprop(atPos ER (cell c k) 0 ∅ 0 ∗ reached ER (cell c k) 0)) ∗ ownToks c ∗ kvCells c) : sProp (MM F))
      ⊢ bigSep Finset.univ (G' I) := by
  rw [bigSep_sep', bigSep_sep', bigSep_sep', ← bigSep_univ_prod (fun x : Dev nD × CK => iprop(∃ κ : ℕ, cellInv ER (Rd I) κ (cell x.1 x.2))),
    bigSep_congr (s := Finset.univ) (fun (c : Dev nD) _ => bigSep_sep' Finset.univ (fun k : CK => (atPos ER (cell c k) 0 ∅ 0 : sProp (MM F))) (fun k => reached ER (cell c k) 0)),
    bigSep_sep', ← bigSep_univ_prod (fun x : Dev nD × CK => (reached ER (cell x.1 x.2) 0 : sProp (MM F)))]
  iintro ⟨HI, ⟨Hat, #HR⟩, Htok, Hkv⟩
  ihave HK := (BI.bigSep_exists_pi Finset.univ (fun (x : Dev nD × CK) (κ : ℕ) => (cellInv ER (Rd I) κ (cell x.1 x.2) : sProp (MM F)))) $$ HI
  icases HK with ⟨%K, #HI⟩
  ihave Htk := (toks_around (F := F)) $$ Htok
  iapply (bigSep_with (R := iprop(invs I K ∗ rchs)) (Φ := fun c => iprop(atAll c ∗ payToks c ∗ kvCells c)) fun c _ => by
    unfold G'
    iintro ⟨⟨#H1, #H2⟩, H3, H4, H5⟩
    isplitr; · iexists K; iexact H1
    isplitr; · iexact H2
    iframel)
  isplitr
  · isplitl; · unfold invs; iexact HI
    unfold rchs; iexact HR
  · rw [bigSep_sep', bigSep_sep']
    isplitl [Hat]; · unfold atAll; iexact Hat
    isplitl [Htk] <;> iassumption

/-- The global step: the semaphores of every device at once. -/
theorem glob : (bigSep Finset.univ fun c => iprop(ownS c ∗ unscopedSems0 c ∗ G I c) : sProp (MM F)) ⊢ |={Set.univ}=> bigSep Finset.univ (G' I) :=
  ((bigSep_mono fun c _ => core_alloc I c).trans (bigSep_fupd _ _)).trans (BI.fupd_mono (regroup I))

/-! ## The credits of the launch -/

omit [FloatOps F] in
theorem owes0_eq (c : Dev nD) : owes0 c = (∑ t ∈ Finset.Ico 0 16, (owX c true t + owX c false t)) + ∑ t ∈ Finset.Ico 0 16, (owB c true t + owB c false t) := by
  unfold owes0 owes'
  rw [sum_bot (by decide : 0 < 16) fun t => owB c true t + owB c false t]
  ac_rfl

omit [FloatOps F] in
theorem cred_bar (c : Dev nD) (r : ℕ) : (Pipeline.launchCred (fun d => owB d true r + owB d false r) c : sProp (MM F)) ⊢ cred (tallyAt (cell c .bar) (2 * r + 1) 2) := by
  rw [Pipeline.launchCred_add, show (tallyAt (cell c .bar) (2 * r + 1) 2 : Tal) = tallyAt (cell c .bar) (2 * r + 1) 1 + tallyAt (cell c .bar) (2 * r + 1) 1 from (tallyAt_add _ _ 1 1).symm]
  refine BI.Entails.trans ?_ (cred_add _ _).2
  exact BIClass.sep_mono
    (Pipeline.launchCred_tallyAt (.reg barSem) (fun d => prv d) (fun d => nxt d) (fun d => frm_tgt true d) (fun d => tgt_frm true d) (2 * r + 1) 1 c)
    (Pipeline.launchCred_tallyAt (.reg barSem) (fun d => nxt d) (fun d => prv d) (fun d => tgt_frm true d) (fun d => frm_tgt true d) (2 * r + 1) 1 c)
omit [FloatOps F] in
theorem cred_recv (c : Dev nD) (b : Bool) (t : ℕ) (ht : t < lim b) : (Pipeline.launchCred (fun d => owX d b t) c : sProp (MM F)) ⊢ xc c b t := by
  unfold xc
  rw [show (fun d => owX d b t) = fun d => tallyAt (cell (tgt b d) (.recv b (sl (t + 1)))) (2 * t + 2) NC from funext fun d => owX_lt d b t ht]
  exact Pipeline.launchCred_tallyAt (csem (.recv b (sl (t + 1)))) (fun d => tgt b d) (fun d => frm b d) (fun d => tgt_frm b d) (fun d => frm_tgt b d) (2 * t + 2) NC c

omit [FloatOps F] in
theorem creds (c : Dev nD) : (Pipeline.launchCred owes0 c : sProp (MM F)) ⊢ iprop((bigSep (Finset.Ico 0 16) fun t => xc c true t) ∗ (bigSep (Finset.Ico 0 15) fun t => xc c false t)
    ∗ bigSep (Finset.Ico 0 16) fun r => cred (tallyAt (cell c .bar) (2 * r + 1) 2)) := by
  rw [show (owes0 : Dev nD → Tal) = _ from funext owes0_eq, Pipeline.launchCred_add, Pipeline.launchCred_sum, Pipeline.launchCred_sum]
  simp only [Pipeline.launchCred_add (fun d => owX d true _) (fun d => owX d false _)]
  rw [bigSep_sep']
  have h1 : (bigSep (Finset.Ico 0 16) fun t => Pipeline.launchCred (fun d => owX d true t) c) ⊢ (bigSep (Finset.Ico 0 16) fun t => xc c true t : sProp (MM F)) :=
    bigSep_mono fun t ht => cred_recv (F := F) c true t (show t < 16 from (Finset.mem_Ico.mp ht).2)
  have h2 : (bigSep (Finset.Ico 0 16) fun t => Pipeline.launchCred (fun d => owX d false t) c) ⊢ (bigSep (Finset.Ico 0 15) fun t => xc c false t : sProp (MM F)) :=
    BI.Entails.trans (bigSep_subset (by decide)) (bigSep_mono fun t ht => cred_recv (F := F) c false t (show t < 15 from (Finset.mem_Ico.mp ht).2))
  have h3 : (bigSep (Finset.Ico 0 16) fun r => Pipeline.launchCred (fun d => owB d true r + owB d false r) c) ⊢ (bigSep (Finset.Ico 0 16) fun r => cred (tallyAt (cell c .bar) (2 * r + 1) 2) : sProp (MM F)) :=
    bigSep_mono fun r _ => cred_bar (F := F) c r
  iintro ⟨⟨H1, H2⟩, H3⟩
  ihave H1 := h1 $$ H1
  ihave H2 := h2 $$ H2
  ihave H3 := h3 $$ H3
  iframel

omit [FloatOps F] in
theorem sub15 (Φ : ℕ → sProp (MM F)) : bigSep (Finset.range 16) Φ ⊢ bigSep (Finset.Ico 0 15) Φ := bigSep_subset (by decide)
/-- A device's rights and credits for the whole run. -/
theorem toks_intro (c : Dev nD) : iprop(payToks c ∗ Pipeline.launchCred owes0 c) ⊢ (iprop(bk c 0 ∗ toks c 0) : sProp (MM F)) := by
  iintro ⟨Ht, Hc⟩
  ihave Hc := (creds (F := F) c) $$ Hc
  icases Hc with ⟨H1, H2, H3⟩
  unfold payToks toks
  simp only [bigSep_sep']
  icases Ht with ⟨⟨Hb1, Hb2⟩, ⟨Hs1, Hs2⟩, Hr1, Hr2⟩
  ihave Hbk := (show iprop((bigSep (Finset.range 16) fun t => tok (prv c) .bar t true) ∗ (bigSep (Finset.range 16) fun t => tok (nxt c) .bar t false)
      ∗ bigSep (Finset.Ico 0 16) fun r => cred (tallyAt (cell c .bar) (2 * r + 1) 2)) ⊢ (iprop(bk c 0 ∗ bigSep (Finset.Ico (0 + 1) 16) fun r => bk c r) : sProp (MM F)) from by
    rw [← bigSep_Ico_succ_bot (by decide : 0 < 16), Finset.range_eq_Ico, ← bigSep_sep', ← bigSep_sep']; exact BI.Entails.refl _) $$ [Hb1 Hb2 H3]
  · iframel
  icases Hbk with ⟨Hbk0, Hbk⟩
  isplitl [Hbk0]; · iexact Hbk0
  isplitl [H1 Hs1 Hr1]
  · isplitr [H1]
    · unfold xk; rw [bigSep_sep']; rw [Finset.range_eq_Ico]
      isplitl [Hs1]; · iexact Hs1
      iexact Hr1
    iexact H1
  isplitr [Hbk]
  · isplitr [H2]
    · unfold xk; rw [bigSep_sep']
      ihave Hs2 := (sub15 fun t => tok c (.send false (sl t)) (t / 2) true) $$ Hs2
      ihave Hr2 := (sub15 fun t => tok (prv c) (.recv false (sl (t + 1))) (t / 2) true) $$ Hr2
      isplitl [Hs2]; · iexact Hs2
      iexact Hr2
    iexact H2
  iexact Hbk

end Cert.KernelIdeal.Attn

end
-- ==== Proof.Shares.lean ====
/- Whole buffers and their parts: the slots, the pieces, the shares of the keys and values. -/
module

public import proofs.«01_k».proof.Proof.Ghost

@[expose] public section

noncomputable section

namespace Cert.KernelIdeal.Attn

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (I : Ins F)

/-! ## Parts of a buffer with any contents -/

/-- The indices with a property. -/
def sel {A : Type} [Fintype A] (P : A → Prop) : Finset A := by classical exact Finset.univ.filter P
theorem mem_sel {A : Type} [Fintype A] {P : A → Prop} {y : A} : y ∈ sel P ↔ P y := by
  classical
  unfold sel; exact ⟨fun h => (Finset.mem_filter.mp h).2, fun h => Finset.mem_filter.mpr ⟨Finset.mem_univ _, h⟩⟩

/-- The part of a buffer that lies in `P`, with any contents. -/
def part (ℓ : Loc nD τ sig) (P : Idx ℓ → Prop) : sProp (MM F) := iprop(∃ f : Buf (Elt F) ℓ, ℓ ↦[sel P]{fullShare} f)

omit [FloatOps F] in
theorem part_two (ℓ : Loc nD τ sig) (P : Idx ℓ → Prop) (g : Idx ℓ → Fin 2) :
    (part ℓ P : sProp (MM F)) ⊣⊢ iprop(part ℓ (fun y => P y ∧ g y = 0) ∗ part ℓ (fun y => P y ∧ g y = 1)) := by
  have hu : sel P = sel (fun y => P y ∧ g y = 0) ∪ sel (fun y => P y ∧ g y = 1) := by
    ext y
    simp only [Finset.mem_union, mem_sel]
    have : g y = 0 ∨ g y = 1 := by rcases g y with ⟨v, hv⟩; rcases (by omega : v = 0 ∨ v = 1) with rfl | rfl; exacts [.inl rfl, .inr rfl]
    tauto
  have hd : Disjoint (sel (fun y => P y ∧ g y = 0)) (sel (fun y => P y ∧ g y = 1)) :=
    Finset.disjoint_left.mpr fun y h h' => absurd ((mem_sel.mp h).2.symm.trans (mem_sel.mp h').2) (by decide)
  unfold part
  rw [hu]
  constructor
  · iintro ⟨%f, H⟩
    ihave H := (pointsTo_union hd).1 $$ H
    icases H with ⟨H1, H2⟩
    isplitl [H1]
    · iexists f; iexact H1
    · iexists f; iexact H2
  · iintro ⟨⟨%f, H1⟩, %g, H2⟩
    ihave H := (pointsTo_join (f := f) (g := g) (q := fullShare) hd) $$ [H1 H2]
    · isplitl [H1]; · iexact H1
      iexact H2
    iexists _
    iexact H

theorem sel_true {A : Type} [Fintype A] : sel (fun _ : A => True) = Finset.univ := Finset.eq_univ_iff_forall.mpr fun _ => mem_sel.mpr trivial

omit [FloatOps F] in
theorem part_four (ℓ : Loc nD τ sig) (P : Idx ℓ → Prop) (g h : Idx ℓ → Fin 2) :
    (part ℓ P : sProp (MM F)) ⊣⊢ four fun i b => part ℓ fun y => (P y ∧ g y = i) ∧ h y = b := by
  unfold four
  constructor
  · iintro H
    ihave H := (part_two ℓ P g).1 $$ H
    icases H with ⟨H0, H1⟩
    ihave H0 := (part_two ℓ _ h).1 $$ H0
    ihave H1 := (part_two ℓ _ h).1 $$ H1
    icases H0 with ⟨H00, H01⟩
    icases H1 with ⟨H10, H11⟩
    iframel
  · iintro ⟨H00, H01, H10, H11⟩
    iapply (part_two ℓ P g).2
    isplitl [H00 H01]
    · iapply (part_two ℓ _ h).2; iframel
    · iapply (part_two ℓ _ h).2; iframel

/-! ## The slots -/

theorem slot_mem (b : Bool) (j : Fin 2) (y : S2x2x256x512.Idx) :
    y ∈ (Rect.unit (s := S2x2x256x512) ![j.val, 0, 0, 0] S1x2x256x512.size (slot_inb j)).set ↔ (True ∧ (y 0 : Fin 2) = j) := by
  rw [Rect.mem_set_unit]
  constructor
  · intro h
    have := h 0
    refine ⟨trivial, Fin.ext ?_⟩
    have h1 : j.val ≤ (y 0).val := this.1
    have h2 : (y 0).val < j.val + 1 := this.2
    omega
  · rintro ⟨-, rfl⟩ a
    have := (y a).isLt
    fin_cases a
    · exact ⟨le_rfl, Nat.lt_succ_self _⟩
    all_goals exact ⟨Nat.zero_le _, by simpa using this⟩

theorem slot_set (b : Bool) (j : Fin 2) : (slotM b j).view.set = (cM b).view.setOn (sel fun y : S2x2x256x512.Idx => True ∧ (y 0 : Fin 2) = j) := by
  rw [show (slotM b j).view.set = (cM b).view.setOn (Rect.unit (s := S2x2x256x512) ![j.val, 0, 0, 0] S1x2x256x512.size (slot_inb j)).set from
    ((View.set_reshape _ _).trans (View.set_slice _ _))]
  congr 1; ext y; rw [slot_mem b j y, mem_sel]

omit [FloatOps F] in
theorem free_part0 (c : Dev nD) (j : Fin 2) : (free c true j : sProp (MM F)) = part ((c : Thread nD τ).loc cc0_scratch0) fun y => True ∧ (y 0 : Fin 2) = j := by
  unfold free part
  rw [slot_set]
  show (iprop(∃ f : Buf (Elt F) ((c : Thread nD τ).loc cc0_scratch0), ((c : Thread nD τ).loc cc0_scratch0) ↦[Finset.map (Function.Embedding.refl _) _]{fullShare} f) : sProp (MM F)) = _
  rw [Finset.map_refl]; rfl
omit [FloatOps F] in
theorem free_part1 (c : Dev nD) (j : Fin 2) : (free c false j : sProp (MM F)) = part ((c : Thread nD τ).loc cc0_scratch1) fun y => True ∧ (y 0 : Fin 2) = j := by
  unfold free part
  rw [slot_set]
  show (iprop(∃ f : Buf (Elt F) ((c : Thread nD τ).loc cc0_scratch1), ((c : Thread nD τ).loc cc0_scratch1) ↦[Finset.map (Function.Embedding.refl _) _]{fullShare} f) : sProp (MM F)) = _
  rw [Finset.map_refl]; rfl

/-- A whole scratch buffer with any contents. -/
def scr (c : Dev nD) (b : Ref sig .tc) : sProp (MM F) := iprop(∃ f : Buf (Elt F) ((c : Thread nD τ).loc b), ((c : Thread nD τ).loc b) ↦{fullShare} f)
omit [FloatOps F] in
theorem scr_part (c : Dev nD) (b : Ref sig .tc) : (scr c b : sProp (MM F)) = part ((c : Thread nD τ).loc b) fun _ => True := by
  unfold scr part; rw [sel_true]
omit [FloatOps F] in
theorem slots0 (c : Dev nD) : (scr c cc0_scratch0 : sProp (MM F)) ⊣⊢ iprop(free c true 0 ∗ free c true 1) := by
  rw [scr_part, free_part0, free_part0]; exact part_two _ _ _
omit [FloatOps F] in
theorem slots1 (c : Dev nD) : (scr c cc0_scratch1 : sProp (MM F)) ⊣⊢ iprop(free c false 0 ∗ free c false 1) := by
  rw [scr_part, free_part1, free_part1]; exact part_two _ _ _

/-! ## The pieces -/

theorem piece_mem (p s i b : Fin 2) (y : S2x2x2x2x256x256.Idx) :
    y ∈ (Rect.unit (s := S2x2x2x2x256x256) ![p.val, s.val, i.val, b.val, 0, 0] S1x1x1x1x256x256.size (piece_inb p s i b)).set
      ↔ ((((True ∧ (y 0 : Fin 2) = p) ∧ (y 1 : Fin 2) = s) ∧ (y 2 : Fin 2) = i) ∧ (y 3 : Fin 2) = b) := by
  rw [Rect.mem_set_unit]
  constructor
  · intro h
    have e : ∀ {u v : Fin 2}, u.val ≤ v.val → v.val < u.val + 1 → v = u := fun h h' => Fin.ext (by omega)
    exact ⟨⟨⟨⟨trivial, e (h 0).1 (h 0).2⟩, e (h 1).1 (h 1).2⟩, e (h 2).1 (h 2).2⟩, e (h 3).1 (h 3).2⟩
  · rintro ⟨⟨⟨⟨-, rfl⟩, rfl⟩, rfl⟩, rfl⟩ a
    have := (y a).isLt
    fin_cases a
    · exact ⟨le_rfl, Nat.lt_succ_self _⟩
    · exact ⟨le_rfl, Nat.lt_succ_self _⟩
    · exact ⟨le_rfl, Nat.lt_succ_self _⟩
    · exact ⟨le_rfl, Nat.lt_succ_self _⟩
    all_goals exact ⟨Nat.zero_le _, by simpa using this⟩
def inPiece (p s i b : Fin 2) (y : S2x2x2x2x256x256.Idx) : Prop := (((True ∧ (y 0 : Fin 2) = p) ∧ (y 1 : Fin 2) = s) ∧ (y 2 : Fin 2) = i) ∧ (y 3 : Fin 2) = b
theorem piece_sel (p s i b : Fin 2) :
    (Rect.unit (s := S2x2x2x2x256x256) ![p.val, s.val, i.val, b.val, 0, 0] S1x1x1x1x256x256.size (piece_inb p s i b)).set = sel (inPiece p s i b) :=
  Finset.ext fun y => (piece_mem p s i b y).trans (mem_sel (P := inPiece p s i b)).symm
omit [FloatOps F] in
theorem kvFree_part (c : Dev nD) (p s i b : Fin 2) : (kvFree c p s i b : sProp (MM F))
    = part ((c : Thread nD τ).loc cc0_scratch2) fun y => (((True ∧ (y 0 : Fin 2) = p) ∧ (y 1 : Fin 2) = s) ∧ (y 2 : Fin 2) = i) ∧ (y 3 : Fin 2) = b := by
  unfold kvFree part
  rw [piece_set]
  show (iprop(∃ f : Buf (Elt F) ((c : Thread nD τ).loc cc0_scratch2), ((c : Thread nD τ).loc cc0_scratch2) ↦[Finset.map (Function.Embedding.refl _) _]{fullShare} f) : sProp (MM F)) = _
  rw [Finset.map_refl, piece_sel]; rfl
theorem pieces (c : Dev nD) : (scr c cc0_scratch2 : sProp (MM F)) ⊣⊢ four fun p s => four (kvFree c p s) := by
  rw [scr_part]
  have e : ∀ p s, (kvFree c p s : Fin 2 → Fin 2 → sProp (MM F)) = fun i b => part ((c : Thread nD τ).loc cc0_scratch2) fun y =>
      (((True ∧ (y 0 : Fin 2) = p) ∧ (y 1 : Fin 2) = s) ∧ (y 2 : Fin 2) = i) ∧ (y 3 : Fin 2) = b := fun p s => funext fun i => funext fun b => kvFree_part c p s i b
  simp only [e]
  have h := part_four (F := F) ((c : Thread nD τ).loc cc0_scratch2) (fun _ => True) (fun y => (y 0 : Fin 2)) (fun y => (y 1 : Fin 2))
  exact ⟨h.1.trans (four_mono fun p s => (part_four ((c : Thread nD τ).loc cc0_scratch2) _ (fun y => (y 2 : Fin 2)) (fun y => (y 3 : Fin 2))).1),
    BI.Entails.trans (four_mono fun p s => (part_four ((c : Thread nD τ).loc cc0_scratch2) _ (fun y => (y 2 : Fin 2)) (fun y => (y 3 : Fin 2))).2) h.2⟩

/-! ## The shares of the keys and values -/

def kvWhole (c : Dev nD) (i : Fin 2) : sProp (MM F) := (kvIn i).view.loc (c : Thread nD τ) ↦{fullShare} kvG I c i
theorem share2 (c : Dev nD) (i : Fin 2) (q : PosShare TreeShare) : ((kvIn i).view.loc (c : Thread nD τ) ↦{q} kvG I c i : sProp (MM F))
    ⊣⊢ iprop(((kvIn i).view.loc (c : Thread nD τ) ↦{half q 0} kvG I c i) ∗ ((kvIn i).view.loc (c : Thread nD τ) ↦{half q 1} kvG I c i)) :=
  pointsTo_share (PosShare.mem_left_op_right q)
theorem share8 (c : Dev nD) (i : Fin 2) : kvWhole I c i ⊣⊢ four fun p s => iprop(kvSrc I c p s i 0 ∗ kvSrc I c p s i 1) := by
  unfold kvWhole kvSrc shr
  constructor
  · iintro H
    ihave H := (share2 I c i fullShare).1 $$ H
    icases H with ⟨H0, H1⟩
    ihave H0 := (share2 I c i _).1 $$ H0
    ihave H1 := (share2 I c i _).1 $$ H1
    icases H0 with ⟨H00, H01⟩
    icases H1 with ⟨H10, H11⟩
    unfold four
    isplitl [H00]; · iapply (share2 I c i _).1; iexact H00
    isplitl [H01]; · iapply (share2 I c i _).1; iexact H01
    isplitl [H10]; · iapply (share2 I c i _).1; iexact H10
    iapply (share2 I c i _).1; iexact H11
  · unfold four
    iintro ⟨H00, H01, H10, H11⟩
    iapply (share2 I c i fullShare).2
    isplitl [H00 H01]
    · iapply (share2 I c i _).2
      isplitl [H00]; · iapply (share2 I c i _).2; iexact H00
      iapply (share2 I c i _).2; iexact H01
    · iapply (share2 I c i _).2
      isplitl [H10]; · iapply (share2 I c i _).2; iexact H10
      iapply (share2 I c i _).2; iexact H11

theorem kv_whole (c : Dev nD) : iprop(scr c cc0_scratch2 ∗ kvWhole I c 0 ∗ kvWhole I c 1 ∗ kvCells c)
    ⊣⊢ iprop(kvIdle I c 0 0 ∗ kvIdle I c 0 1 ∗ kvIdle I c 1 0 ∗ kvIdle I c 1 1) := by
  constructor
  · iintro ⟨Hf, H0, H1, Hc⟩
    ihave Hf := (pieces (F := F) c).1 $$ Hf
    ihave H0 := (share8 I c 0).1 $$ H0
    ihave H1 := (share8 I c 1).1 $$ H1
    unfold kvIdle kvCells
    simp only [four]
    icases Hf with ⟨Hf0, Hf1, Hf2, Hf3⟩
    icases H0 with ⟨⟨a0, a1⟩, ⟨a2, a3⟩, ⟨a4, a5⟩, ⟨a6, a7⟩⟩
    icases H1 with ⟨⟨b0, b1⟩, ⟨b2, b3⟩, ⟨b4, b5⟩, ⟨b6, b7⟩⟩
    icases Hc with ⟨c0, c1, c2, c3⟩
    isplitl [Hf0 a0 a1 b0 b1 c0]; · iframel
    isplitl [Hf1 a2 a3 b2 b3 c1]; · iframel
    isplitl [Hf2 a4 a5 b4 b5 c2]; · iframel
    iframel
  · unfold kvIdle kvCells
    iintro ⟨⟨f0, x0, c0⟩, ⟨f1, x1, c1⟩, ⟨f2, x2, c2⟩, ⟨f3, x3, c3⟩⟩
    isplitl [f0 f1 f2 f3]
    · iapply (pieces (F := F) c).2; unfold four; simp only [four]; iframel
    simp only [four]
    icases x0 with ⟨a0, a1, b0, b1⟩
    icases x1 with ⟨a2, a3, b2, b3⟩
    icases x2 with ⟨a4, a5, b4, b5⟩
    icases x3 with ⟨a6, a7, b6, b7⟩
    isplitl [a0 a1 a2 a3 a4 a5 a6 a7]; · iapply (share8 I c 0).2; simp only [four]; iframel
    isplitl [b0 b1 b2 b3 b4 b5 b6 b7]; · iapply (share8 I c 1).2; simp only [four]; iframel
    iframel

/-! ## The first places, and the cells closed -/

omit [FloatOps F] in
theorem pos_intro (c : Dev nD) : iprop(rchs ∗ atAll c) ⊢ (iprop((Pos c 0 ∗ Rch c 0 ∗ Pos c 1 ∗ Rch c 1) ∗ (posB c 0 ∗ rchB (prv c) 0 ∗ rchB (nxt c) 0)) : sProp (MM F)) := by
  unfold atAll
  rw [bigSep_CK]
  iintro ⟨#HR, H0, H1, H2, H3, H4, H5, H6, H7, H8⟩
  have hr := rchs_at (F := F)
  unfold Pos Rch posS posR rchR posB rchB
  isplitr [H0]
  · isplitl [H1 H3 H6 H8]
    · isplitl [H1]; · isplitl [H1]; · iexact H1
                      iapply (hr c (.send true 0)); iexact HR
      isplitl [H3]; · isplitl [H3]; · iexact H3
                      iapply (hr c (.send false 0)); iexact HR
      isplitl [H6]; · iexact H6
      iexact H8
    isplitr
    · isplitr; · iapply (hr c (.recv true 1)); iexact HR
      iapply (hr c (.recv false 1)); iexact HR
    isplitl
    · isplitl [H2]; · isplitl [H2]; · iexact H2
                      iapply (hr c (.send true 1)); iexact HR
      isplitl [H4]; · isplitl [H4]; · iexact H4
                      iapply (hr c (.send false 1)); iexact HR
      isplitl [H5]; · iexact H5
      iexact H7
    isplitr; · iapply (hr c (.recv true 0)); iexact HR
    iapply (hr c (.recv false 0)); iexact HR
  isplitl
  · isplitl; · iexact H0
    iapply (hr c .bar); iexact HR
  isplitr; · iapply (hr (prv c) .bar); iexact HR
  iapply (hr (nxt c) .bar); iexact HR

theorem close (K : Dev nD × CK → ℕ) (c : Dev nD) (k : CK) (r : ℕ) (hr : r = lastR k) : recs I K ⊢ iprop(atPos ER (cell c k) r ∅ 0 -∗ |={Set.univ}=> semVal (cell c k) 0) := by
  subst hr
  iintro #HR H
  iapply (Rounds.cell_close ER (Rd I) (Set.mem_univ (K (c, k))) (fun h => h) (R := lastR k) (duties_later I c k))
  isplitr; · iapply (recs_inv I K c k); iexact HR
  iexact H

theorem close_all (K : Dev nD × CK → ℕ) (c : Dev nD) : recs I K ⊢ iprop((posB c 16 ∗ (posS c true 17 ∗ posR c true 17 ∗ posS c false 15 ∗ posR c false 15) ∗ Pos c 16)
    -∗ |={Set.univ}=> (semVal (cell c .bar) 0 ∗ dmaCells c)) := by
  unfold Pos posB posS posR dmaCells
  iintro #HR ⟨⟨Hb, -⟩, ⟨⟨s1, -⟩, r0, ⟨s3, -⟩, r2⟩, ⟨s0, -⟩, ⟨s2, -⟩, r1, r3⟩
  imod (close I K c .bar 16 rfl) $$ HR Hb with Hb
  imod (close I K c (.send true (sl 16)) (16 / 2) rfl) $$ HR s0 with s0
  imod (close I K c (.send true (sl 17)) (17 / 2) rfl) $$ HR s1 with s1
  imod (close I K c (.send false (sl 16)) (16 / 2) rfl) $$ HR s2 with s2
  imod (close I K c (.send false (sl 15)) (15 / 2) rfl) $$ HR s3 with s3
  imod (close I K c (.recv true (sl (17 + 1))) (17 / 2) rfl) $$ HR r0 with r0
  imod (close I K c (.recv true (sl (16 + 1))) (16 / 2) rfl) $$ HR r1 with r1
  imod (close I K c (.recv false (sl (15 + 1))) (15 / 2) rfl) $$ HR r2 with r2
  imod (close I K c (.recv false (sl (16 + 1))) (16 / 2) rfl) $$ HR r3 with r3
  imodintro
  isplitl [Hb]; · iexact Hb
  isplitl [s0 s1 s2 s3]
  · isplitl [s0]; · iexact s0
    isplitl [s1]; · iexact s1
    isplitl [s2]; · iexact s2
    iexact s3
  isplitl [r0]; · iexact r0
  isplitl [r1]; · iexact r1
  isplitl [r2]; · iexact r2
  iexact r3

end Cert.KernelIdeal.Attn

end
-- ==== Proof.Main.lean ====
/- The launch: what each device starts and ends with, the pipeline's obligation, and the run of @main. -/
module

public import proofs.«01_k».proof.Proof.Shares
public import Idealize.ShloMosaic.Lib.Pipeline.Launch
public import Idealize.ShloMosaic.Lib.Pipeline.Kit
public import Idealize.ShloMosaic.Lib.Pipeline.CollectiveSegs

@[expose] public section

noncomputable section

namespace Cert.KernelIdeal.Attn

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

variable (m : (ℓ : Loc nD τ sig) → Buf (Elt F) ℓ) (ρ : Dev nD → PrngReg)

def st0 : MemSt nD τ sig (Elt F) := ⟨m, fun _ => 0, ρ⟩

/-- What the staging buffers hold: each device's blocks of its arguments. -/
def insOf : Ins F where
  x c := (win0_0.blk (0 : Fin 1)).view.read (Elt F) (m ((c : Thread nD τ).loc main_arg0))
  wq c := (win0_1.blk (0 : Fin 1)).view.read (Elt F) (m ((c : Thread nD τ).loc main_arg1))
  k c := (win0_2.blk (0 : Fin 1)).view.read (Elt F) (m ((c : Thread nD τ).loc main_arg2))
  v c := (win0_3.blk (0 : Fin 1)).view.read (Elt F) (m ((c : Thread nD τ).loc main_arg3))
  wo c := (win0_4.blk (0 : Fin 1)).view.read (Elt F) (m ((c : Thread nD τ).loc main_arg4))

/-- The scoped buffers no window stages. -/
def scrs (c : Dev nD) : sProp (MM F) := iprop(scr c cc0_scratch0 ∗ scr c cc0_scratch1 ∗ scr c cc0_scratch2 ∗ scr c cc0_scratch3)

/-- What a device's body starts from besides its staging buffers and scratch. -/
def entry (c : Dev nD) : sProp (MM F) :=
  iprop((∃ K, recs (insOf m) K) ∗ (rchs ∗ atAll c) ∗ (bk c 0 ∗ toks c 0) ∗ kvCells c)

def phi0 (c : Dev nD) : sProp (MM F) := iprop(entry m c ∗ scrs c)
def phi1 (c : Dev nD) : sProp (MM F) := iprop(scrs c ∗ (dmaCells c ∗ kvCells c) ∗ semVal (cell c .bar) 0)

def dats (_ : Fin 1) (c : Dev nD) : Dat τ (Elt F) ℕ ℕ UU ℕ cfg0 c where
  A w := (st0 m ρ).mem ((cfg0.win w).arr.view.loc (c : Thread nD τ))
  after w _ := match w with
    | ⟨0, _⟩ => (insOf m).x c
    | ⟨1, _⟩ => (insOf m).wq c
    | ⟨2, _⟩ => (insOf m).k c
    | ⟨3, _⟩ => (insOf m).v c
    | ⟨4, _⟩ => (insOf m).wo c
    | ⟨5, _⟩ => outF (insOf m) c
  Φ t := match t with
    | ⟨0, _⟩ => phi0 m c
    | ⟨_ + 1, _⟩ => phi1 c
  q _ := fullShare
  owed t := match t with
    | ⟨0, _⟩ => owes0 c
    | ⟨_ + 1, _⟩ => 0

theorem fetch_in (t : Fin cfg0.N) (w : Fin cfg0.W) (hw : w.val < 5) : (cfg0.win w).fetch t = true := by
  rw [fin_N0 t]
  rcases w with ⟨w, h⟩
  have : w < 5 := hw
  rcases (by omega : w = 0 ∨ w = 1 ∨ w = 2 ∨ w = 3 ∨ w = 4) with rfl | rfl | rfl | rfl | rfl <;> rfl

theorem owns_whole_eq (c : Dev nD) (b : Ref sig .tc) (X : b.ty.Contents (Elt F)) :
    (owns (c : Thread nD τ) (Memref.whole b) fullShare X : sProp (MM F)) = iprop(∃ f, ⌜f = X⌝ ∗ ((c : Thread nD τ).loc b ↦{fullShare} f)) := by
  unfold owns; simp only [Memref.view_whole, View.read_whole, View.set_whole]

/-- A staging buffer holding `X`. -/
def stg (c : Dev nD) (b : Ref sig .tc) (X : b.ty.Contents (Elt F)) : sProp (MM F) := iprop(∃ f, ⌜f = X⌝ ∗ ((c : Thread nD τ).loc b ↦{fullShare} f))

omit [FloatOps F] in
theorem stg_elim (c : Dev nD) (b : Ref sig .tc) (X : b.ty.Contents (Elt F)) : stg c b X ⊢ ((c : Thread nD τ).loc b ↦{fullShare} X : sProp (MM F)) := by
  unfold stg
  iintro ⟨%f, %h, H⟩
  subst h
  iexact H
omit [FloatOps F] in
theorem stg_intro (c : Dev nD) (b : Ref sig .tc) (X : b.ty.Contents (Elt F)) : ((c : Thread nD τ).loc b ↦{fullShare} X : sProp (MM F)) ⊢ stg c b X := by
  unfold stg
  iintro H
  iexists X
  isplitr; · (ipureintro; rfl)
  iexact H

def bodyPre (c : Dev nD) : sProp (MM F) :=
  iprop(phi0 m c ∗ (dats m ρ 0 c).owesAt (0 : ℕ) t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp (MM F) :=
  iprop(phi1 c ∗ (dats m ρ 0 c).owesAt (0 : ℕ) t0_0.succ
    ∗ stg c cc0_stg0_0 ((insOf m).x c) ∗ stg c cc0_stg1_0 ((insOf m).wq c) ∗ stg c cc0_stg2_0 ((insOf m).k c)
    ∗ stg c cc0_stg3_0 ((insOf m).v c) ∗ stg c cc0_stg4_0 ((insOf m).wo c) ∗ stg c cc0_stg5_0 (outF (insOf m) c))

theorem bef0 (c : Dev nD) (d) : (dats m ρ 0 c).before (0 : Fin 6) t0_0 d = (insOf m).x c := by unfold Dat.before; rw [if_pos (fetch_in t0_0 (0 : Fin 6) (by decide))]; rfl
theorem bef1 (c : Dev nD) (d) : (dats m ρ 0 c).before (1 : Fin 6) t0_0 d = (insOf m).wq c := by unfold Dat.before; rw [if_pos (fetch_in t0_0 (1 : Fin 6) (by decide))]; rfl
theorem bef2 (c : Dev nD) (d) : (dats m ρ 0 c).before (2 : Fin 6) t0_0 d = (insOf m).k c := by unfold Dat.before; rw [if_pos (fetch_in t0_0 (2 : Fin 6) (by decide))]; rfl
theorem bef3 (c : Dev nD) (d) : (dats m ρ 0 c).before (3 : Fin 6) t0_0 d = (insOf m).v c := by unfold Dat.before; rw [if_pos (fetch_in t0_0 (3 : Fin 6) (by decide))]; rfl
theorem bef4 (c : Dev nD) (d) : (dats m ρ 0 c).before (4 : Fin 6) t0_0 d = (insOf m).wo c := by unfold Dat.before; rw [if_pos (fetch_in t0_0 (4 : Fin 6) (by decide))]; rfl

theorem ow_intro (c : Dev nD) : (dats m ρ 0 c).owesAt (0 : ℕ) t0_0.castSucc ⊢ Ow c (owes0 c) := by
  unfold Dat.owesAt Pipeline.owesWithin Ow
  iintro ⟨%W, -, H⟩
  iexists W
  iexact H
theorem ow_exit (c : Dev nD) : (Ow c 0 : sProp (MM F)) ⊢ (dats m ρ 0 c).owesAt (0 : ℕ) t0_0.succ := by
  unfold Dat.owesAt Pipeline.owesWithin Ow
  iintro ⟨%W, H⟩
  iexists W
  isplitr
  · ipureintro; exact fun _ _ => Or.inl trivial
  iexact H

/-- What the body needs, from the pipeline's staging buffers and the device's own holdings. -/
theorem start_of (c : Dev nD) : bodyPre m ρ c ⊢ iprop((∃ K, recs (insOf m) K) ∗ Start (insOf m) c) := by
  unfold bodyPre phi0 entry scrs
  simp only [bef0, bef1, bef2, bef3, bef4]
  iintro ⟨⟨⟨HK, Hpos, ⟨Hbk, Htk⟩, Hkv⟩, ⟨Hs0, Hs1, Hs2, Hs3⟩⟩, Ho, ⟨%d0, Hx⟩, ⟨%d1, Hwq⟩, ⟨%d2, Hk⟩, ⟨%d3, Hv⟩, ⟨%d4, Hwo⟩, ⟨%d5, Hout⟩⟩
  isplitl [HK]; · iexact HK
  ihave Ho := (ow_intro m ρ c) $$ Ho
  ihave Hx := (show (stg c cc0_stg0_0 ((insOf m).x c) : sProp (MM F)) ⊢ xPt (insOf m) c from stg_elim c cc0_stg0_0 _) $$ Hx
  ihave Hwq := (show (stg c cc0_stg1_0 ((insOf m).wq c) : sProp (MM F)) ⊢ wqPt (insOf m) c from stg_elim c cc0_stg1_0 _) $$ Hwq
  ihave Hk := (show (stg c cc0_stg2_0 ((insOf m).k c) : sProp (MM F)) ⊢ kvWhole (insOf m) c 0 from stg_elim c cc0_stg2_0 _) $$ Hk
  ihave Hv := (show (stg c cc0_stg3_0 ((insOf m).v c) : sProp (MM F)) ⊢ kvWhole (insOf m) c 1 from stg_elim c cc0_stg3_0 _) $$ Hv
  ihave Hwo := (show (stg c cc0_stg4_0 ((insOf m).wo c) : sProp (MM F)) ⊢ woPt (insOf m) c from stg_elim c cc0_stg4_0 _) $$ Hwo
  ihave Hout := (show (stg c cc0_stg5_0 ((dats m ρ 0 c).before 5 t0_0 d5) : sProp (MM F)) ⊢ outPt c ((dats m ρ 0 c).before 5 t0_0 d5) from stg_elim c cc0_stg5_0 _) $$ Hout
  ihave Hs3 := (show (scr c cc0_scratch3 : sProp (MM F)) ⊢ ctxFree c from BI.Entails.refl _) $$ Hs3
  ihave Hpos := (pos_intro c) $$ Hpos
  icases Hpos with ⟨Hp, Hb⟩
  ihave Hs0 := (slots0 (F := F) c).1 $$ Hs0
  ihave Hs1 := (slots1 (F := F) c).1 $$ Hs1
  have hkv : iprop(scr c cc0_scratch2 ∗ kvWhole (insOf m) c 0 ∗ kvWhole (insOf m) c 1 ∗ kvCells c)
      ⊢ (iprop(kvIdle (insOf m) c 0 0 ∗ kvIdle (insOf m) c 0 1 ∗ kvIdle (insOf m) c 1 0 ∗ kvIdle (insOf m) c 1 1) : sProp (MM F)) := (kv_whole (insOf m) c).1
  ihave Hkv := hkv $$ [Hs2 Hk Hv Hkv]
  · isplitl [Hs2]; · iexact Hs2
    isplitl [Hk]; · iexact Hk
    isplitl [Hv]; · iexact Hv
    iexact Hkv
  icases Hs0 with ⟨Hf0, Hf1⟩
  icases Hs1 with ⟨Hb0, Hb1⟩
  unfold Start
  isplitl [Ho]; · iexact Ho
  isplitl [Hp]; · iexact Hp
  isplitl [Hb]; · iexact Hb
  isplitl [Hbk Htk]; · (isplitl [Hbk] <;> iassumption)
  isplitl [Hf0 Hf1 Hb0 Hb1]
  · isplitl [Hf0]; · iexact Hf0
    isplitl [Hf1]; · iexact Hf1
    isplitl [Hb0]; · iexact Hb0
    iexact Hb1
  isplitl [Hkv]; · iexact Hkv
  isplitl [Hx]; · iexact Hx
  isplitl [Hwq]; · iexact Hwq
  isplitl [Hwo]; · iexact Hwo
  isplitl [Hs3]; · iexact Hs3
  iexists _; iexact Hout

/-- What the pipeline takes back, from what the body ends with. -/
theorem post_of (K : Dev nD × CK → ℕ) (c : Dev nD) : recs (insOf m) K ⊢ iprop((Done (insOf m) c ∗ wqPt (insOf m) c ∗ woPt (insOf m) c) -∗ |={Set.univ}=> bodyPost m ρ c) := by
  unfold Done
  iintro #HR ⟨⟨Ho, HpB, Hps, Hp, ⟨Hf0, Hf1, Hb0, Hb1⟩, Hkv, Hx, Hctx, Hout⟩, Hwq, Hwo⟩
  have hkv : (iprop(kvIdle (insOf m) c 0 0 ∗ kvIdle (insOf m) c 0 1 ∗ kvIdle (insOf m) c 1 0 ∗ kvIdle (insOf m) c 1 1) : sProp (MM F))
      ⊢ iprop(scr c cc0_scratch2 ∗ kvWhole (insOf m) c 0 ∗ kvWhole (insOf m) c 1 ∗ kvCells c) := (kv_whole (insOf m) c).2
  ihave Hkv := hkv $$ Hkv
  icases Hkv with ⟨Hs2, Hk, Hv, Hkv⟩
  have h0 : (iprop(free c true 0 ∗ free c true 1) : sProp (MM F)) ⊢ scr c cc0_scratch0 := (slots0 c).2
  have h1 : (iprop(free c false 0 ∗ free c false 1) : sProp (MM F)) ⊢ scr c cc0_scratch1 := (slots1 c).2
  ihave Hs0 := h0 $$ [Hf0 Hf1]
  · isplitl [Hf0] <;> iassumption
  ihave Hs1 := h1 $$ [Hb0 Hb1]
  · isplitl [Hb0] <;> iassumption
  ihave Hctx := (show (ctxFree c : sProp (MM F)) ⊢ scr c cc0_scratch3 from BI.Entails.refl _) $$ Hctx
  imod (close_all (insOf m) K c) $$ HR [HpB Hps Hp] with Hc
  · isplitl [HpB]; · iexact HpB
    isplitl [Hps]; · iexact Hps
    iexact Hp
  icases Hc with ⟨HzB, Hz⟩
  imodintro
  unfold bodyPost phi1 scrs
  isplitl [Hs0 Hs1 Hs2 Hctx Hz Hkv HzB]
  · isplitl [Hs0 Hs1 Hs2 Hctx]
    · isplitl [Hs0]; · iexact Hs0
      isplitl [Hs1]; · iexact Hs1
      isplitl [Hs2]; · iexact Hs2
      iexact Hctx
    isplitl [Hz Hkv]
    · isplitl [Hz] <;> iassumption
    iexact HzB
  isplitl [Ho]; · (iapply (ow_exit m ρ c) $$ Ho)
  isplitl [Hx]; · (iapply (show (xPt (insOf m) c : sProp (MM F)) ⊢ stg c cc0_stg0_0 ((insOf m).x c) from stg_intro c cc0_stg0_0 _) $$ Hx)
  isplitl [Hwq]; · (iapply (show (wqPt (insOf m) c : sProp (MM F)) ⊢ stg c cc0_stg1_0 ((insOf m).wq c) from stg_intro c cc0_stg1_0 _) $$ Hwq)
  isplitl [Hk]; · (iapply (show (kvWhole (insOf m) c 0 : sProp (MM F)) ⊢ stg c cc0_stg2_0 ((insOf m).k c) from stg_intro c cc0_stg2_0 _) $$ Hk)
  isplitl [Hv]; · (iapply (show (kvWhole (insOf m) c 1 : sProp (MM F)) ⊢ stg c cc0_stg3_0 ((insOf m).v c) from stg_intro c cc0_stg3_0 _) $$ Hv)
  isplitl [Hwo]; · (iapply (show (woPt (insOf m) c : sProp (MM F)) ⊢ stg c cc0_stg4_0 ((insOf m).wo c) from stg_intro c cc0_stg4_0 _) $$ Hwo)
  iapply (show (outPt c (outF (insOf m) c) : sProp (MM F)) ⊢ stg c cc0_stg5_0 (outF (insOf m) c) from stg_intro c cc0_stg5_0 _) $$ Hout

theorem run_body (c : Dev nD) : bodyPre m ρ c ⊢ WP c (bodyPr (F := F)) (fun _ => bodyPost m ρ c) := by
  have h : iprop((∃ K, recs (insOf m) K) ∗ Start (insOf m) c) ⊢ WP c (bodyPr (F := F)) (fun _ => iprop(|={Set.univ}=> bodyPost m ρ c)) := by
    iintro ⟨⟨%K, #HR⟩, Hst⟩
    iapply (wp_body (insOf m) K c) $$ HR Hst
    iintro HD
    iapply (post_of m ρ K c) $$ HR HD
  exact (start_of m ρ c).trans (h.trans (wp_fupd _ _ _ _ _))

set_option maxRecDepth 8000 in
/-- The pipeline's obligation of the body on device `c`. -/
theorem body_obligation (c : Dev nD) : BodyObligation (dats (F := F) m ρ 0 c) (defs₀ (F := F)) V0 (0 : ℕ) Set.univ := fun t => by
  rw [fin_N0 t]
  rw [bigSep_W0, bigSep_W0]
  simp only [owns_whole_eq]
  exact run_body m ρ c

theorem share_eq (c : Dev nD) (w : Fin cfg0.W) : (dats m ρ 0 c).share w = fullShare := by unfold Dat.share; split <;> rfl

/-! ## The launch's side conditions -/

theorem entry_intro (c : Dev nD) :
    iprop(Pipeline.unscopedRestP Pipeline.Prefetch.none cfg0.spec c (fun b => m ((c : Thread nD τ).loc b)) ∗ levAts LL lv
        ∗ Pipeline.launchCred owes0 c ∗ prngReg c (ρ c) ∗ G' (insOf m) c)
      ⊢ |={Set.univ}=> iprop(entry m c ∗ emp) := by
  unfold G' entry invs
  iintro ⟨-, #Hlev, Hcr, -, ⟨⟨%K, #HI⟩, #Hr, Hat, Hpt, Hkv⟩⟩
  ihave Ht := (toks_intro (F := F) c) $$ [Hpt Hcr]
  · isplitl [Hpt] <;> iassumption
  imodintro
  isplitl
  · isplitr
    · iexists K
      unfold recs
      isplitl; · iexact HI
      iexact Hlev
    isplitl [Hat]
    · isplitr; · iexact Hr
      iexact Hat
    isplitl [Ht]; · iexact Ht
    iexact Hkv
  · iempintro

theorem phi0_intro (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi0 m c from rfl, scopedRest0_eq]
  unfold phi0 scrs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = phi1 c from rfl, scopedRest0_eq, unscopedSems0_eq]
  have h : (iprop(dmaCells c ∗ kvCells c) : sProp (MM F)) ⊢ ownS c := (ownSems0_eq c).2
  unfold phi1 scrs
  iintro ⟨Hr, Hz, HzB⟩
  isplitl [HzB]; · iexact HzB
  isplitl [Hz]; · (iapply h $$ Hz)
  iexact Hr

theorem waits (c : Dev nD) : (levAts LL lv : sProp (MM F)) ⊢ Pipeline.cellsWaits cfgs (dats m ρ) (0 : ℕ) 0 c :=
  Pipeline.cellsWaits_intro cfgs (dats m ρ) (0 : ℕ) 0 c fun w s t => mayWait c _ 0 (by decide) (by
    rcases t with ⟨_ | _, ht⟩
    · exact Above.owes0 c
    · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of @main terminates, the result on each device is what the pipeline wrote back, the
    arguments are unchanged and every semaphore is at zero. -/
theorem run_main : θ_run defs (onTc (τ := τ) (main (F := F))) (st0 m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ V0 m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owes0) (howed₀ := fun _ => rfl) (howedN := fun _ => rfl)
    (L := LL) (lv := lv) (hL := fun g h => if_neg h) (hwaits := waits m ρ)
    (G := G (insOf m)) (G' := G' (insOf m)) (u₀ := u0)
    (hu₀ := by
      unfold u0
      iintro Hu
      ihave H := (ownU_split _ _) $$ Hu
      icases H with ⟨HP, HX⟩
      imod (fund_ring (insOf m)) $$ HX with HG
      imodintro
      isplitl [HP] <;> iassumption)
    (hglob := glob (insOf m))
    (hA := fun _ _ => rfl) (hpf := fun _ k => k.elim0)
    (X := entry m) (Y := fun c => unscopedSems0 c) (Z := fun _ => iprop(emp))
    (hX := entry_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_in (c : Dev nD) (w : Fin 6) (hw : w.val < 5) : finalA m ρ c w = (st0 m ρ).mem ((cfg0.win w).arr.view.loc (c : Thread nD τ)) := by
  rcases w with ⟨w, h⟩
  have : w < 5 := hw
  rcases (by omega : w = 0 ∨ w = 1 ∨ w = 2 ∨ w = 3 ∨ w = 4) with rfl | rfl | rfl | rfl | rfl <;> exact (dats m ρ 0 c).arrAt_in _ rfl _

/-- The run as the claims read it. -/
theorem run_args : θ_run defs (onTc (τ := τ) (main (F := F))) ⟨m, fun _ => 0, ρ⟩ (fun r => (∀ c : Dev nD,
      r.2.mem ((c.tc : Thread nD τ).loc main_v1) = finalA m ρ c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨h.1 c (5 : Fin 6), (h.1 c (0 : Fin 6)).trans (finalA_in m ρ c 0 (by decide)),
    (h.1 c (1 : Fin 6)).trans (finalA_in m ρ c 1 (by decide)), (h.1 c (2 : Fin 6)).trans (finalA_in m ρ c 2 (by decide)),
    (h.1 c (3 : Fin 6)).trans (finalA_in m ρ c 3 (by decide)), (h.1 c (4 : Fin 6)).trans (finalA_in m ρ c 4 (by decide))⟩, h.2⟩) (run_main m ρ)

end Cert.KernelIdeal.Attn
-- ==== Proof.Frames.lean ====
/- The frames: the run with its values dropped. The two kernels' programs are the same text. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Main

@[expose] public section

noncomputable section

namespace Cert.Proof

open Idealize.ShloMosaic Idealize.SL.Sem

variable {F : FTy → Type} [FloatOps F]

theorem main_eq : (Cert.Kernel.main (F := F)) = Cert.KernelIdeal.main := rfl
set_option maxRecDepth 100000 in
theorem body_eq : @Cert.Kernel.cc0_body F _ _ = @Cert.KernelIdeal.cc0_body F _ _ := rfl

set_option maxRecDepth 100000 in
theorem defs0_eq : (Cert.Kernel.defs₀ (F := F)) = Cert.KernelIdeal.defs₀ := by
  unfold Cert.Kernel.defs₀ Cert.KernelIdeal.defs₀
  refine congrArg Defs.onTc (funext fun l => funext fun a => ?_)
  rcases l with ⟨_ | _, h⟩
  · rcases a with ⟨t, s⟩
    exact rfl
  · exact absurd h (Nat.not_lt.2 (Nat.le_add_left _ _))
theorem defs_eq : (Cert.Kernel.defs (F := F)) = Cert.KernelIdeal.defs := by
  unfold Cert.Kernel.defs Cert.KernelIdeal.defs
  exact congrArg _ defs0_eq

theorem frame_kernel : Cert.quiescent_Kernel := fun m ρ _ => by
  rw [defs_eq, main_eq]
  exact (θ_run Cert.KernelIdeal.defs _ _).mono (fun _ h => ⟨fun c => (h.1 c).2, h.2⟩) (Cert.KernelIdeal.Attn.run_args (F := Bits) m ρ)
theorem frame_kernelIdeal : Cert.quiescent_KernelIdeal := fun m ρ _ =>
  (θ_run Cert.KernelIdeal.defs _ _).mono (fun _ h => ⟨fun c => (h.1 c).2, h.2⟩) (Cert.KernelIdeal.Attn.run_args (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
module

public import Idealize.ShloMosaic.Lib.Pointwise

/-! Weighted means by exponentials over the extended reals, and sums in blocks. -/

@[expose] public section

noncomputable section

namespace Cert.Softmax

open Idealize.ShloMosaic

/-- One eighth, as the kernel and the reference write it. -/
theorem eighth : Ideal.ofBits .f32 0x3E000000#32 = (((1 : ℝ) / 8 : ℝ) : EReal) := by
  simp [Ideal.ofBits, Ideal.ieee, -EReal.coe_mul]; norm_num
theorem neg_inf : Ideal.ofBits .f32 0xFF800000#32 = ⊥ := by
  simp [Ideal.ofBits, Ideal.ieee]

/-- The mean of `v` with the exponentials of `s` (less their maximum) as weights. -/
def soft {n : ℕ} (s v : Fin n → EReal) : EReal :=
  ∑ j, Ideal.div (Ideal.exp (s j - Finset.univ.fold max ⊥ s)) (∑ i, Ideal.exp (s i - Finset.univ.fold max ⊥ s)) * v j

theorem fold_max {n : ℕ} (s : Fin n → EReal) : Finset.univ.fold max ⊥ s = Finset.univ.sup s := rfl

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The position of key `j` of block `t`. -/
def pos (t : Fin 4) (j : Fin 64) : Fin 256 := ⟨64 * t.val + j.val, by omega⟩
theorem pos_inj (t : Fin 4) : Function.Injective (pos t) := fun a b h => by
  have := congrArg Fin.val h; simp only [pos] at this; exact Fin.ext (by omega)
theorem not_pos {t : Fin 4} {x : Fin 256} (h : x ∉ Set.range (pos t)) : x.val / 64 ≠ t.val := fun e =>
  h ⟨⟨x.val % 64, Nat.mod_lt _ (by decide)⟩, Fin.ext (by simp only [pos]; omega)⟩

/-- Keys whose score is minus infinity may be left out, the others' scores being finite. -/
theorem soft_masked (t : Fin 4) (s : Fin 256 → ℝ) (v : Fin 256 → EReal) :
    soft (fun x : Fin 256 => if x.val / 64 = t.val then (s x : EReal) else ⊥) v = soft (fun j : Fin 64 => (s (pos t j) : EReal)) (fun j => v (pos t j)) := by
  have hp : ∀ j, (pos t j).val / 64 = t.val := fun j => by simp only [pos]; omega
  have hmax : Finset.univ.fold max ⊥ (fun x : Fin 256 => if x.val / 64 = t.val then (s x : EReal) else ⊥)
      = Finset.univ.fold max ⊥ (fun j : Fin 64 => (s (pos t j) : EReal)) := by
    rw [fold_max, fold_max]
    refine le_antisymm (Finset.sup_le fun x _ => ?_) (Finset.sup_le fun j _ => ?_)
    · split
      · rename_i h
        have e : x = pos t ⟨x.val % 64, Nat.mod_lt _ (by decide)⟩ := Fin.ext (by simp only [pos]; omega)
        rw [e]
        exact Finset.le_sup (f := fun j : Fin 64 => (s (pos t j) : EReal)) (Finset.mem_univ _)
      · exact bot_le
    · refine le_trans (le_of_eq ?_) (Finset.le_sup (f := fun x : Fin 256 => if x.val / 64 = t.val then (s x : EReal) else ⊥) (Finset.mem_univ (pos t j)))
      exact (if_pos (hp j)).symm
  obtain ⟨j0, -, hj0⟩ := Finset.exists_mem_eq_sup (Finset.univ : Finset (Fin 64)) ⟨0, Finset.mem_univ _⟩ (fun j : Fin 64 => (s (pos t j) : EReal))
  have hM : Finset.univ.fold max ⊥ (fun j : Fin 64 => (s (pos t j) : EReal)) = ((s (pos t j0) : ℝ) : EReal) := by rw [fold_max, hj0]
  unfold soft
  rw [hmax, hM]
  generalize hr : s (pos t j0) = r
  have hz : ∀ x : Fin 256, x ∉ Set.range (pos t) → Ideal.exp ((if x.val / 64 = t.val then (s x : EReal) else ⊥) - (r : EReal)) = 0 := by
    intro x hx
    rw [if_neg (not_pos hx)]
    simp [EReal.bot_sub]
  have he : ∀ j : Fin 64, Ideal.exp ((s (pos t j) : EReal) - (r : EReal)) = ((Real.exp (s (pos t j) - r) : ℝ) : EReal) := fun j => by
    rw [← EReal.coe_sub, Ideal.exp_coe]
  have hsum : (∑ x : Fin 256, Ideal.exp ((if x.val / 64 = t.val then (s x : EReal) else ⊥) - (r : EReal))) = ∑ j : Fin 64, Ideal.exp ((s (pos t j) : EReal) - (r : EReal)) :=
    (Fintype.sum_of_injective (pos t) (pos_inj t) _ _ hz fun j => by rw [if_pos (hp j)]).symm
  have hD : (∑ j : Fin 64, Ideal.exp ((s (pos t j) : EReal) - (r : EReal))) = ((∑ j : Fin 64, Real.exp (s (pos t j) - r) : ℝ) : EReal) := by
    rw [coe_sum]; exact Finset.sum_congr rfl fun j _ => he j
  have hne : (∑ j : Fin 64, Real.exp (s (pos t j) - r) : ℝ) ≠ 0 :=
    (Finset.sum_pos (fun j _ => Real.exp_pos _) ⟨(0 : Fin 64), Finset.mem_univ _⟩).ne'
  rw [hsum, hD]
  refine (Fintype.sum_of_injective (pos t) (pos_inj t) _ _ (fun x hx => ?_) fun j => ?_).symm
  · dsimp only
    rw [hz x hx, Ideal.div_coe hne, zero_mul, zero_mul]
  · dsimp only
    rw [if_pos (hp j)]

/-- Scaling one factor of a finite product sum, or the sum. -/
theorem scale_sum (a k : Fin 64 → ℝ) (s : ℝ) : (∑ d, ((a d : EReal) * (s : EReal)) * (k d : EReal)) = ((∑ d, a d * k d) * s : ℝ) := by
  rw [Finset.sum_mul, coe_sum]
  refine Finset.sum_congr rfl fun d _ => ?_
  rw [← EReal.coe_mul, ← EReal.coe_mul]
  congr 1; ring
theorem sum_scale (a k : Fin 64 → ℝ) (s : ℝ) : (∑ d, (a d : EReal) * (k d : EReal)) * (s : EReal) = ((∑ d, a d * k d) * s : ℝ) := by
  rw [EReal.coe_mul, coe_sum]
  congr 1

/-- A sum over the columns of all head blocks, block by block. -/
theorem sum_blocks (f : Fin 8192 → EReal) : ∑ J, f J = ∑ d : Fin 32, ∑ j : Fin 256, f ⟨256 * d.val + j.val, by omega⟩ := by
  rw [← Fintype.sum_prod_type']
  refine (Fintype.sum_equiv (finProdFinEquiv (m := 32) (n := 256)) _ _ fun p => ?_).symm
  congr 1
  exact Fin.ext (by simp only [finProdFinEquiv, Equiv.coe_fn_mk]; omega)

end Cert.Softmax
-- ==== Proof.KerVal.lean ====
module

public import proofs.«01_k».proof.Proof.Cont
public import proofs.«01_k».proof.Proof.Softmax

/-! The kernel's result, read at an index. -/

@[expose] public section

set_option maxRecDepth 16384

noncomputable section

namespace Cert.KerVal

open Cert.KernelIdeal Cert.KernelIdeal.Gen Idealize.ShloMosaic
open Cert.KernelIdeal.Attn (headS headE headP headC Ins acc ctxOf ctxW outN outF colOf wqH woH kkH vvH up dn)
open Cert.Softmax

theorem attn_ix2 {a b : ℕ} (i : Fin a) (j : Fin b) : Attn.ix2 i j = ix2 i j := by
  funext x; fin_cases x <;> rfl
theorem attn_ix3 {a b d : ℕ} (i : Fin a) (j : Fin b) (k : Fin d) : Attn.ix3 i j k = ix3 i j k := by
  funext x; fin_cases x <;> rfl

theorem headS_apply (h : Fin 4) (q : FVec Ideal S512x256 .bf16) (k : FVec Ideal S2x256x256 .bf16) (n : Fin 8) (i j : Fin 64) :
    headS (F := Ideal) h q k (ix3 n i j)
      = ∑ x : Fin 64, q (ix2 ⟨n.val * 64 + i.val, by omega⟩ ⟨64 * h.val + x.val, by omega⟩) * k (ix3 ⟨n.val / 4, by omega⟩ ⟨n.val % 4 * 64 + j.val, by omega⟩ ⟨64 * h.val + x.val, by omega⟩) := by
  pointwise [headS]
theorem headE_apply (s : FVec Ideal S8x64x64 .f32) (n : Fin 8) (i j : Fin 64) :
    headE (F := Ideal) s (ix3 n i j) = Ideal.exp (s (ix3 n i j) - Finset.univ.fold max ⊥ fun x => s (ix3 n i x)) := by
  pointwise [headE]
  rw [neg_inf]
theorem headP_apply (s : FVec Ideal S8x64x64 .f32) (n : Fin 8) (i j : Fin 64) :
    headP (F := Ideal) s (ix3 n i j) = Ideal.div (s (ix3 n i j)) (∑ x, s (ix3 n i x)) := by
  pointwise [headP]
theorem headC_apply (h : Fin 4) (q : FVec Ideal S512x256 .bf16) (k v : FVec Ideal S2x256x256 .bf16) (n : Fin 512) (i : Fin 64) :
    headC (F := Ideal) h q k v (ix2 n i)
      = soft (fun x : Fin 64 => headS (F := Ideal) h q k (ix3 ⟨n.val / 64, by omega⟩ ⟨n.val % 64, by omega⟩ x))
        (fun x => v (ix3 ⟨n.val / 64 / 4, by omega⟩ ⟨n.val / 64 % 4 * 64 + x.val, by omega⟩ ⟨64 * h.val + i.val, by omega⟩)) := by
  pointwise [headC]
  unfold soft
  refine Finset.sum_congr rfl fun x _ => ?_
  rw [headP_apply, headE_apply]
  simp only [headE_apply]
theorem pay3_apply (w : Vec Ideal S1x1x256x512 .bf16) (x : Vec Ideal S2x256x512 .bf16) (n : Fin 512) (i : Fin 256) :
    k0_pay3 (F := Ideal) w x (ix2 n i) = (∑ e : Fin 512, x (ix3 ⟨n.val / 256, by omega⟩ ⟨n.val % 256, by omega⟩ e) * w (ix4 0 0 i e)) * (((1 : ℝ) / 8 : ℝ) : EReal) := by
  pointwise [k0_pay3]
  rw [eighth]
theorem pay12_apply (w : Vec Ideal S1x1x256x512 .bf16) (o : Vec Ideal S2x256x512 .f32) (c : Vec Ideal S512x256 .bf16) (b : Fin 2) (n : Fin 256) (i : Fin 512) :
    k0_pay12 (F := Ideal) (k0_pay2 w) o c (ix3 b n i) = o (ix3 b n i) + ∑ x : Fin 256, c (ix2 ⟨b.val * 256 + n.val, by omega⟩ x) * w (ix4 0 0 x i) := by
  pointwise [k0_pay12, k0_pay2]
theorem pay4_apply (w : Vec Ideal S1x1x1x2x256x256 .bf16) (b : Fin 2) (n : Fin 256) (i : Fin 256) :
    k0_pay4 (F := Ideal) w (ix3 b n i) = w (ix6 0 0 0 b n i) := by
  pointwise [k0_pay4]
theorem pay55_apply (j : S2x256x512.Idx) : k0_pay55 (F := Ideal) j = (0 : EReal) := by
  pointwise [k0_pay55]

variable (I : Ins Ideal)

theorem woH_apply (d : Fin 32) (x : Fin 256) (i : Fin 512) : woH I d (ix4 0 0 x i) = I.wo d (ix2 x i) := congrArg (I.wo d) (attn_ix2 x i)
theorem wqH_apply (d : Fin 32) (x : Fin 256) (i : Fin 512) : wqH I d (ix4 0 0 x i) = I.wq d (ix2 i x) := congrArg (I.wq d) (attn_ix2 i x)
theorem kkH_apply (c h : Fin 32) (b : Fin 2) (n x : Fin 256) : kkH I c h (ix6 0 0 0 b n x) = I.k c (ix3 b n (colOf h x)) := congrArg (I.k c) (attn_ix3 b n (colOf h x))
theorem vvH_apply (c h : Fin 32) (b : Fin 2) (n x : Fin 256) : vvH I c h (ix6 0 0 0 b n x) = I.v c (ix3 b n (colOf h x)) := congrArg (I.v c) (attn_ix3 b n (colOf h x))
theorem ctxW_apply (f : Fin 4 → FVec Ideal S512x64 .bf16) (r : Fin 512) (x : Fin 256) :
    ctxW f (ix2 r x) = f ⟨x.val / 64, by omega⟩ (ix2 r ⟨x.val % 64, by omega⟩) := congrArg (f ⟨x.val / 64, by omega⟩) (attn_ix2 r (⟨x.val % 64, by omega⟩ : Fin 64))

/-- Device `d`'s heads' part of a result of device `c`. -/
def part (c : Fin 32) (b : Fin 2) (n : Fin 256) (o : Fin 512) (d : Fin 32) : EReal :=
  ∑ x : Fin 256, ctxOf I c d (ix2 ⟨b.val * 256 + n.val, by omega⟩ x) * I.wo d (ix2 x o)

theorem acc_apply (c d : Fin 32) (o : S2x256x512.Idx → Elt Ideal .f32) (b : Fin 2) (n : Fin 256) (i : Fin 512) :
    acc I c d o (ix3 b n i) = (o (ix3 b n i) : EReal) + part I c b n i d := by
  unfold acc part
  rw [pay12_apply]
  congr 1
  refine Finset.sum_congr rfl fun x _ => ?_
  congr 1
  exact woH_apply I d x i

theorem outN_apply (c : Fin 32) (b : Fin 2) (n : Fin 256) (i : Fin 512) : ∀ k : ℕ,
    (outN I c k (ix3 b n i) : EReal) = (∑ j ∈ Finset.range (k + 1), part I c b n i (dn c j)) + ∑ j ∈ Finset.range k, part I c b n i (up c (j + 1))
  | 0 => by
    show acc I c (dn c 0) (k0_pay55 (F := Ideal)) (ix3 b n i) = _
    rw [acc_apply, pay55_apply]; simp
  | k + 1 => by
    show acc I c (up c (k + 1)) (acc I c (dn c (k + 1)) (outN I c k)) (ix3 b n i) = _
    rw [acc_apply, acc_apply, outN_apply c b n i k, Finset.sum_range_succ _ (k + 1), Finset.sum_range_succ (fun j => part I c b n i (up c (j + 1))) k]
    ac_rfl

/-- The result sums the parts of all devices' heads. -/
theorem outF_apply (c : Fin 32) (b : Fin 2) (n : Fin 256) (i : Fin 512) : (outF I c (ix3 b n i) : EReal) = ∑ d : Fin 32, part I c b n i d := by
  show acc I c (dn c 16) (outN I c 15) (ix3 b n i) = _
  rw [acc_apply, outN_apply]
  generalize part I c b n i = f
  have h1 : ∑ d : Fin 32, f d = ∑ k : Fin 32, f (dn c k.val) := by
    refine (Function.Bijective.sum_comp (Finite.injective_iff_bijective.mp ?_) f).symm
    intro a a' h
    have := congrArg Fin.val h
    simp only [dn] at this
    exact Fin.ext (by omega)
  rw [h1, Fin.sum_univ_eq_sum_range (fun k => f (dn c k)) 32, Finset.sum_range_succ _ 15, show (32 : ℕ) = 17 + 15 from rfl]
  have h2 : ∀ g : ℕ → EReal, ∑ k ∈ Finset.range (17 + 15), g k = (∑ k ∈ Finset.range 17, g k) + ∑ k ∈ Finset.range 15, g (17 + k) := fun g => by
    induction 15 with
    | zero => simp
    | succ n ih => rw [← Nat.add_assoc, Finset.sum_range_succ, ih, Finset.sum_range_succ _ n, add_assoc]
  rw [h2, ← Finset.sum_range_reflect (fun k => f (dn c (17 + k))), Finset.sum_range_succ _ 16, Finset.sum_range_succ _ 15]
  have h3 : ∑ j ∈ Finset.range 15, f (up c (j + 1)) = ∑ j ∈ Finset.range 15, f (dn c (17 + (15 - 1 - j))) := by
    refine Finset.sum_congr rfl fun j hj => ?_
    have := Finset.mem_range.mp hj
    congr 1
    exact Fin.ext (by simp only [up, dn]; omega)
  rw [h3]
  ac_rfl

/-- A head's context row. -/
theorem ctxOf_apply (c d : Fin 32) (b : Fin 2) (n x : Fin 256) :
    ctxOf I c d (ix2 ⟨b.val * 256 + n.val, by omega⟩ x)
      = soft (fun j : Fin 64 => ∑ y : Fin 64, ((∑ e : Fin 512, (I.x c (ix3 b n e) : EReal) * I.wq d (ix2 e ⟨64 * (x.val / 64) + y.val, by omega⟩)) * (((1 : ℝ) / 8 : ℝ) : EReal))
            * I.k c (ix3 b ⟨64 * (n.val / 64) + j.val, by omega⟩ ⟨256 * d.val + (64 * (x.val / 64) + y.val), by omega⟩))
          (fun j => I.v c (ix3 b ⟨64 * (n.val / 64) + j.val, by omega⟩ ⟨256 * d.val + x.val, by omega⟩)) := by
  unfold ctxOf
  rw [ctxW_apply, headC_apply]
  congr 1
  · funext j
    rw [headS_apply]
    refine Finset.sum_congr rfl fun y _ => ?_
    rw [pay3_apply, pay4_apply, kkH_apply]
    congr 1
    · congr 1
      refine Finset.sum_congr rfl fun e _ => ?_
      rw [wqH_apply]
      congr 1
      congr 2 <;> exact Fin.ext (by dsimp only; omega)
    · congr 2 <;> exact Fin.ext (by dsimp only [colOf]; omega)
  · funext j
    rw [pay4_apply, vvH_apply]
    congr 2 <;> exact Fin.ext (by dsimp only [colOf]; omega)

end Cert.KerVal
-- ==== Proof.RefVal.lean ====
module

public import proofs.«01_k».proof.Proof.Gen.ReferenceIdeal
public import proofs.«01_k».proof.Proof.Gen.ReferenceIdeal.Run
public import proofs.«01_k».proof.Proof.Softmax
public import Idealize.ShloMosaic.Lib.Routing.OpsSearch
public import Idealize.ShloMosaic.Lib.Pointwise

/-! The reference's result, read at an index. -/

@[expose] public section

set_option maxRecDepth 16384

noncomputable section

namespace Cert.RefVal

open Cert.Softmax Cert.ReferenceIdeal Cert.ReferenceIdeal.Gen Cert.ReferenceIdeal.Value Idealize.ShloMosaic Idealize.ShloMosaic.TcCoe

/-! ## The mask -/

/-- A vector of words divided by a word, rounding down. -/
def fd (s : Shape) (b : S_.BroadcastsInDim s ![]) (x : IVec s 32) : IVec s 32 :=
  select (andi (cmpi .ne (signi x) (broadcastInDim s ![] b (signi (id (constantI S_ 32 64#32)))))
      (cmpi .ne (Host.remsi x (broadcastInDim s ![] b (id (constantI S_ 32 64#32)))) (broadcastInDim s ![] b (constantI S_ 32 0#32))))
    (subi (Host.divsi x (broadcastInDim s ![] b (id (constantI S_ 32 64#32)))) (broadcastInDim s ![] b (constantI S_ 32 1#32)))
    (Host.divsi x (broadcastInDim s ![] b (id (constantI S_ 32 64#32))))
def k4 : IVec S_ 32 := select (cmpi .eq (id (constantI S_ 32 4#32)) (constantI S_ 32 0#32)) (constantI S_ 32 1#32) (id (constantI S_ 32 4#32))
/-- A vector of words modulo four, with the divisor's sign. -/
def md (s : Shape) (b : S_.BroadcastsInDim s ![]) (x : IVec s 32) : IVec s 32 :=
  select (andi (cmpi .ne (cmpi .slt (Host.remsi x (broadcastInDim s ![] b k4)) (broadcastInDim s ![] b (constantI S_ 32 0#32)))
        (broadcastInDim s ![] b (cmpi .slt k4 (constantI S_ 32 0#32))))
      (cmpi .ne (Host.remsi x (broadcastInDim s ![] b k4)) (broadcastInDim s ![] b (constantI S_ 32 0#32))))
    (addi (Host.remsi x (broadcastInDim s ![] b k4)) (broadcastInDim s ![] b k4))
    (Host.remsi x (broadcastInDim s ![] b k4))
def qb : IVec S8192 32 := fd S8192 bcast_S_S8192 (iotaInDim S8192 32 0)
def kb : IVec S256 32 := fd S256 bcast_S_S256 (iotaInDim S256 32 0)
def qb1 : IVec S8192x1 32 := broadcastInDim S8192x1 ![0] bcast_S8192_S8192x1_0 qb
def kb1 : IVec S1x256 32 := broadcastInDim S1x256 ![1] bcast_S256_S1x256_1 kb
def mask : IVec S8192x256 1 :=
  ori (cmpi .eq (broadcastInDim S8192x256 ![0, 1] bcast_S8192x1_S8192x256_0_1 qb1) (broadcastInDim S8192x256 ![0, 1] bcast_S1x256_S8192x256_0_1 kb1))
    (cmpi .eq (broadcastInDim S8192x256 ![0, 1] bcast_S1x256_S8192x256_0_1 (md S1x256 bcast_S_S1x256 kb1))
      (broadcastInDim S8192x256 ![0, 1] bcast_S8192x1_S8192x256_0_1 (md S8192x1 bcast_S_S8192x1 qb1)))
def keep : IVec S1x1x8192x1 1 :=
  broadcastInDim S1x1x8192x1 ![2] bcast_S8192_S1x1x8192x1_2 (Host.reduce IntOp.ori mask (constantI S_ 1 0#1) reducesTo_S8192x256_S8192_d1 h_S_)

/-! ## The scores, the weights, the result -/

section
variable {F : FTy → Type} [FloatOps F]
def qR (x : FVec F S2x8192x512 .bf16) (wq : FVec F S512x8192 .bf16) : FVec F S2x8192x128x64 .f32 :=
  shapeCast _ (Host.dotGeneral dot_S2x8192x512_S512x8192_S2x8192x8192_2_0_01_1_n_n none (extf .f32 x bitsLt_bf16_f32) (extf .f32 wq bitsLt_bf16_f32)) shapeCasts_S2x8192x8192_S2x8192x128x64
def sR (q : FVec F S2x8192x128x64 .f32) (k : FVec F S2x256x8192 .bf16) : FVec F S2x128x8192x256 .f32 :=
  mulf (Host.dotGeneral dot_S2x8192x128x64_S2x256x128x64_S2x128x8192x256_3_3_1_1_02_02 none q
      (shapeCast _ (extf .f32 k bitsLt_bf16_f32) shapeCasts_S2x256x8192_S2x256x128x64))
    (broadcastInDim S2x128x8192x256 ![] bcast_S_S2x128x8192x256 (constant S_ .f32 0x3E000000#32))
def smR (s : FVec F S2x128x8192x256 .f32) : FVec F S2x128x8192x256 .f32 :=
  select (broadcastInDim S2x128x8192x256 ![0, 1, 2, 3] bcast_S1x1x8192x256_S2x128x8192x256_0_1_2_3 (broadcastInDim S1x1x8192x256 ![2, 3] bcast_S8192x256_S1x1x8192x256_2_3 mask))
    s (broadcastInDim S2x128x8192x256 ![] bcast_S_S2x128x8192x256 (id (constant S_ .f32 0xFF800000#32)))
def eR (s : FVec F S2x128x8192x256 .f32) : FVec F S2x128x8192x256 .f32 :=
  Host.exp (subf s (broadcastInDim S2x128x8192x256 ![0, 1, 2, 3] bcast_S2x128x8192x1_S2x128x8192x256_0_1_2_3 (broadcastInDim S2x128x8192x1 ![0, 1, 2] bcast_S2x128x8192_S2x128x8192x1_0_1_2
    (Host.reduce FloatOps.maximumf s (constant S_ .f32 0xFF800000#32) reducesTo_S2x128x8192x256_S2x128x8192_d3 h_S_))))
def pR (e : FVec F S2x128x8192x256 .f32) : FVec F S2x128x8192x256 .f32 :=
  select (broadcastInDim S2x128x8192x256 ![0, 1, 2, 3] bcast_S1x1x8192x1_S2x128x8192x256_0_1_2_3 keep)
    (Host.divf e (broadcastInDim S2x128x8192x256 ![0, 1, 2, 3] bcast_S2x128x8192x1_S2x128x8192x256_0_1_2_3
      (select (broadcastInDim S2x128x8192x1 ![0, 1, 2, 3] bcast_S1x1x8192x1_S2x128x8192x1_0_1_2_3 keep)
        (broadcastInDim S2x128x8192x1 ![0, 1, 2] bcast_S2x128x8192_S2x128x8192x1_0_1_2
          (Host.reduceAdd e (constant S_ .f32 0x00000000#32) reducesTo_S2x128x8192x256_S2x128x8192_d3 h_S_))
        (broadcastInDim S2x128x8192x1 ![] bcast_S_S2x128x8192x1 (id (constant S_ .f32 0x3F800000#32))))))
    (broadcastInDim S2x128x8192x256 ![] bcast_S_S2x128x8192x256 (id (constant S_ .f32 0x00000000#32)))
def cR (p : FVec F S2x128x8192x256 .f32) (v : FVec F S2x256x8192 .bf16) : FVec F S2x8192x8192 .f32 :=
  shapeCast _ (transpose S2x8192x128x64 [0, 3, 1, 2] (Host.dotGeneral dot_S2x256x128x64_S2x128x8192x256_S2x128x64x8192_1_3_3_2_02_01 none
    (shapeCast _ (extf .f32 v bitsLt_bf16_f32) shapeCasts_S2x256x8192_S2x256x128x64) p) transposes_S2x128x64x8192_S2x8192x128x64_0_3_1_2) shapeCasts_S2x8192x128x64_S2x8192x8192
def oR (c : FVec F S2x8192x8192 .f32) (wo : FVec F S8192x512 .bf16) : FVec F S2x8192x512 .f32 :=
  Host.dotGeneral dot_S2x8192x8192_S8192x512_S2x8192x512_2_0_01_1_n_n none c (extf .f32 wo bitsLt_bf16_f32)

theorem res_eq (m : (ℓ : Loc nD τ sig) → Buf (Elt F) ℓ) (c : Dev nD) :
    res_main_v46 m c = oR (cR (pR (eR (smR (sR (qR (m ((c.tc : Thread nD τ).loc main_arg0)) (m ((c.tc : Thread nD τ).loc main_arg1))) (m ((c.tc : Thread nD τ).loc main_arg2))))))
      (m ((c.tc : Thread nD τ).loc main_arg3))) (m ((c.tc : Thread nD τ).loc main_arg4)) := rfl
end

/-! ## The mask at an index -/

theorem qb_apply (i : Fin 8192) : qb (ix1 i) = BitVec.ofNat 32 (i.val / 64) := by
  pointwise [qb, fd]
  exact Routing.pyDiv0_ap (fun _ => BitVec.ofNat 32 i.val) (fun _ => 64#32) (b := 64) rfl rfl (by omega) (by decide) (by decide)
theorem kb_apply (j : Fin 256) : kb (ix1 j) = BitVec.ofNat 32 (j.val / 64) := by
  pointwise [kb, fd]
  exact Routing.pyDiv0_ap (fun _ => BitVec.ofNat 32 j.val) (fun _ => 64#32) (b := 64) rfl rfl (by omega) (by decide) (by decide)

/-- A word modulo four. -/
def md1 (x : BitVec 32) : BitVec 32 :=
  Scalar.select (IntOp.andi (IntOp.cmpi .ne (IntOp.cmpi .slt (IntOp.remsi .host x 4#32) 0#32) (IntOp.cmpi .slt 4#32 0#32)) (IntOp.cmpi .ne (IntOp.remsi .host x 4#32) 0#32))
    (IntOp.addi (IntOp.remsi .host x 4#32) 4#32) (IntOp.remsi .host x 4#32)
theorem md1_of (n : Fin 128) : md1 (BitVec.ofNat 32 n.val) = BitVec.ofNat 32 (n.val % 4) := by
  unfold md1
  rw [Routing.remsi_word .host (b := 4) (by omega) (by decide) (by decide)]
  revert n; decide
theorem mdQ_apply (x : IVec S8192x1 32) (i : Fin 8192) : md S8192x1 bcast_S_S8192x1 x (ix2 i 0) = md1 (x (ix2 i 0)) := by
  pointwise [md, k4]
  rfl
theorem mdK_apply (x : IVec S1x256 32) (j : Fin 256) : md S1x256 bcast_S_S1x256 x (ix2 0 j) = md1 (x (ix2 0 j)) := by
  pointwise [md, k4]
  rfl
theorem qb1_apply (i : Fin 8192) : qb1 (ix2 i 0) = BitVec.ofNat 32 (i.val / 64) := by
  pointwise [qb1]
  exact qb_apply i
theorem kb1_apply (j : Fin 256) : kb1 (ix2 0 j) = BitVec.ofNat 32 (j.val / 64) := by
  pointwise [kb1]
  exact kb_apply j

theorem word_mask : ∀ (a : Fin 128) (b : Fin 4),
    IntOp.ori (IntOp.cmpi .eq (BitVec.ofNat 32 a.val) (BitVec.ofNat 32 b.val)) (IntOp.cmpi .eq (BitVec.ofNat 32 (b.val % 4)) (BitVec.ofNat 32 (a.val % 4)))
      = if b.val = a.val % 4 then 1#1 else 0#1 := by decide

theorem mask_apply (i : Fin 8192) (j : Fin 256) : mask (ix2 i j) = if j.val / 64 = i.val / 64 % 4 then 1#1 else 0#1 := by
  pointwise [mask]
  rw [mdQ_apply, mdK_apply, qb1_apply, kb1_apply]
  have hq := md1_of ⟨i.val / 64, by omega⟩
  have hk := md1_of ⟨j.val / 64, by omega⟩
  dsimp only at hq hk
  rw [hq, hk]
  exact word_mask ⟨i.val / 64, by omega⟩ ⟨j.val / 64, by omega⟩

theorem fold_or (f : Fin 256 → BitVec 1) (j : Fin 256) (h : f j = 1#1) : Finset.univ.fold IntOp.ori 0#1 f = 1#1 := by
  rw [← Finset.insert_erase (Finset.mem_univ j), Finset.fold_insert (Finset.notMem_erase _ _), h]
  generalize (Finset.univ.erase j).fold IntOp.ori 0#1 f = w
  revert w; decide

theorem keep_apply (i : Fin 8192) : keep (ix4 0 0 i 0) = 1#1 := by
  pointwise [keep]
  have h : ∀ j : Fin 256, j.val / 64 = i.val / 64 % 4 → mask (ix2 i j) = 1#1 := fun j hj => by rw [mask_apply, if_pos hj]
  exact fold_or _ ⟨i.val / 64 % 4 * 64, by omega⟩ (h _ (by dsimp only; omega))

/-! ## The result at an index -/

theorem qR_apply (x : FVec Ideal S2x8192x512 .bf16) (wq : FVec Ideal S512x8192 .bf16) (b : Fin 2) (i : Fin 8192) (h : Fin 128) (d : Fin 64) :
    qR (F := Ideal) x wq (ix4 b i h d) = ∑ e : Fin 512, x (ix3 b i e) * wq (ix2 e ⟨h.val * 64 + d.val, by omega⟩) := by
  pointwise [qR]
theorem sR_apply (q : FVec Ideal S2x8192x128x64 .f32) (k : FVec Ideal S2x256x8192 .bf16) (b : Fin 2) (h : Fin 128) (i : Fin 8192) (j : Fin 256) :
    sR (F := Ideal) q k (ix4 b h i j) = (∑ d : Fin 64, q (ix4 b i h d) * k (ix3 b j ⟨h.val * 64 + d.val, by omega⟩)) * (((1 : ℝ) / 8 : ℝ) : EReal) := by
  pointwise [sR]
  rw [eighth]
theorem smR_apply (s : FVec Ideal S2x128x8192x256 .f32) (b : Fin 2) (h : Fin 128) (i : Fin 8192) (j : Fin 256) :
    smR (F := Ideal) s (ix4 b h i j) = if j.val / 64 = i.val / 64 % 4 then s (ix4 b h i j) else ⊥ := by
  pointwise [smR]
  rw [mask_apply]
  split
  · rfl
  · exact neg_inf
theorem eR_apply (s : FVec Ideal S2x128x8192x256 .f32) (b : Fin 2) (h : Fin 128) (i : Fin 8192) (j : Fin 256) :
    eR (F := Ideal) s (ix4 b h i j) = Ideal.exp (s (ix4 b h i j) - Finset.univ.fold max ⊥ fun x => s (ix4 b h i x)) := by
  pointwise [eR]
  rw [neg_inf]
theorem pR_apply (s : FVec Ideal S2x128x8192x256 .f32) (b : Fin 2) (h : Fin 128) (i : Fin 8192) (j : Fin 256) :
    pR (F := Ideal) s (ix4 b h i j) = Ideal.div (s (ix4 b h i j)) (∑ x, s (ix4 b h i x)) := by
  pointwise [pR]
  rw [keep_apply]
  rfl
theorem cR_apply (p : FVec Ideal S2x128x8192x256 .f32) (v : FVec Ideal S2x256x8192 .bf16) (b : Fin 2) (i : Fin 8192) (j : Fin 8192) :
    cR (F := Ideal) p v (ix3 b i j) = ∑ x, v (ix3 b x j) * p (ix4 b ⟨j.val / 64, by omega⟩ i x) := by
  pointwise [cR]
theorem oR_apply (c : FVec Ideal S2x8192x8192 .f32) (wo : FVec Ideal S8192x512 .bf16) (b : Fin 2) (i : Fin 8192) (o : Fin 512) :
    oR (F := Ideal) c wo (ix3 b i o) = ∑ J, c (ix3 b i J) * wo (ix2 J o) := by
  pointwise [oR]

/-- The reference's result. -/
def out (x : FVec Ideal S2x8192x512 .bf16) (wq : FVec Ideal S512x8192 .bf16) (k v : FVec Ideal S2x256x8192 .bf16) (wo : FVec Ideal S8192x512 .bf16) : FVec Ideal S2x8192x512 .f32 :=
  oR (cR (pR (eR (smR (sR (qR x wq) k)))) v) wo

theorem out_apply (x : FVec Ideal S2x8192x512 .bf16) (wq : FVec Ideal S512x8192 .bf16) (k v : FVec Ideal S2x256x8192 .bf16) (wo : FVec Ideal S8192x512 .bf16)
    (b : Fin 2) (i : Fin 8192) (o : Fin 512) :
    out x wq k v wo (ix3 b i o) = ∑ J : Fin 8192,
      soft (fun j : Fin 256 => if j.val / 64 = i.val / 64 % 4 then
          (∑ d : Fin 64, (∑ e : Fin 512, x (ix3 b i e) * wq (ix2 e ⟨J.val / 64 * 64 + d.val, by omega⟩)) * k (ix3 b j ⟨J.val / 64 * 64 + d.val, by omega⟩)) * (((1 : ℝ) / 8 : ℝ) : EReal)
          else ⊥) (fun j => v (ix3 b j J)) * wo (ix2 J o) := by
  unfold out
  rw [oR_apply]
  refine Finset.sum_congr rfl fun J _ => ?_
  rw [cR_apply]
  congr 1
  unfold soft
  refine Finset.sum_congr rfl fun j _ => ?_
  rw [mul_comm, pR_apply]
  simp only [eR_apply, smR_apply, sR_apply, qR_apply]

end Cert.RefVal
-- ==== Proof.Value.lean ====
module

public import proofs.«01_k».proof.Proof.KerVal
public import proofs.«01_k».proof.Proof.RefVal

/-! The kernel's result is the reference's, device by device. -/

@[expose] public section

noncomputable section

namespace Cert.Value

open Cert.KernelIdeal Idealize.ShloMosaic
open Cert.KernelIdeal.Attn (Ins outF ctxOf)
open Cert.Softmax Cert.KerVal

/-- A scaled product sum of finite numbers, scaled inside and outside. -/
theorem scores (x : Fin 512 → EReal) (w : Fin 64 → Fin 512 → EReal) (k : Fin 64 → EReal) (hx : ∀ e, ∃ r : ℝ, x e = r) (hw : ∀ d e, ∃ r : ℝ, w d e = r)
    (hk : ∀ d, ∃ r : ℝ, k d = r) : ∃ r : ℝ,
      (∑ d : Fin 64, ((∑ e, x e * w d e) * (((1 : ℝ) / 8 : ℝ) : EReal)) * k d) = r ∧ (∑ d : Fin 64, (∑ e, x e * w d e) * k d) * (((1 : ℝ) / 8 : ℝ) : EReal) = r := by
  choose x' hx using hx
  choose w' hw using hw
  choose k' hk using hk
  have hq : ∀ d, ∑ e, x e * w d e = ((∑ e, x' e * w' d e : ℝ) : EReal) := fun d => by
    rw [coe_sum]
    exact Finset.sum_congr rfl fun e _ => by rw [hx, hw, EReal.coe_mul]
  simp only [hq, hk]
  exact ⟨_, scale_sum _ _ _, sum_scale _ _ _⟩

variable (I : Ins Ideal) (x : FVec Ideal Cert.ReferenceIdeal.S2x8192x512 .bf16) (wq : FVec Ideal Cert.ReferenceIdeal.S512x8192 .bf16)
  (k v : FVec Ideal Cert.ReferenceIdeal.S2x256x8192 .bf16) (wo : FVec Ideal Cert.ReferenceIdeal.S8192x512 .bf16)

theorem value_eq (c : Fin 32)
    (hx : ∀ (b : Fin 2) (n : Fin 256) (e : Fin 512), I.x c (ix3 b n e) = x (ix3 b ⟨c.val * 256 + n.val, by omega⟩ e))
    (hwq : ∀ (d : Fin 32) (e : Fin 512) (j : Fin 256), I.wq d (ix2 e j) = wq (ix2 e ⟨d.val * 256 + j.val, by omega⟩))
    (hk : I.k c = k) (hv : I.v c = v)
    (hwo : ∀ (d : Fin 32) (j : Fin 256) (o : Fin 512), I.wo d (ix2 j o) = wo (ix2 ⟨d.val * 256 + j.val, by omega⟩ o))
    (fx : ∀ i, ∃ r : ℝ, x i = r) (fq : ∀ i, ∃ r : ℝ, wq i = r) (fk : ∀ i, ∃ r : ℝ, k i = r) (b : Fin 2) (n : Fin 256) (o : Fin 512) :
    (outF I c (ix3 b n o) : EReal) = RefVal.out x wq k v wo (ix3 b ⟨c.val * 256 + n.val, by omega⟩ o) := by
  rw [outF_apply, RefVal.out_apply, sum_blocks]
  refine Finset.sum_congr rfl fun d _ => ?_
  unfold part
  refine Finset.sum_congr rfl fun j _ => ?_
  rw [ctxOf_apply, hwo, hk, hv]
  have ht : (c.val * 256 + n.val) / 64 % 4 = n.val / 64 := by omega
  have hs : ∀ key : Fin 256, _ := fun key => scores (fun e => x (ix3 b ⟨c.val * 256 + n.val, by omega⟩ e))
    (fun y e => wq (ix2 e ⟨(256 * d.val + j.val) / 64 * 64 + y.val, by omega⟩)) (fun y => k (ix3 b key ⟨(256 * d.val + j.val) / 64 * 64 + y.val, by omega⟩))
    (fun e => fx _) (fun y e => fq _) (fun y => fk _)
  choose s hs1 hs2 using hs
  have e1 : ∀ y : Fin 64, (⟨256 * d.val + (64 * (j.val / 64) + y.val), by omega⟩ : Fin 8192) = ⟨(256 * d.val + j.val) / 64 * 64 + y.val, by omega⟩ := fun y => Fin.ext (by dsimp only; omega)
  have e2 : ∀ y : Fin 64, (⟨d.val * 256 + (64 * (j.val / 64) + y.val), by omega⟩ : Fin 8192) = ⟨(256 * d.val + j.val) / 64 * 64 + y.val, by omega⟩ := fun y => Fin.ext (by dsimp only; omega)
  have e3 : (⟨d.val * 256 + j.val, by omega⟩ : Fin 8192) = ⟨256 * d.val + j.val, by omega⟩ := Fin.ext (by dsimp only; omega)
  rw [e3]
  congr 1
  dsimp only at hs1 hs2 ⊢
  simp only [hs2, ht]
  refine Eq.trans ?_ (soft_masked ⟨n.val / 64, by omega⟩ s (fun key => v (ix3 b key ⟨256 * d.val + j.val, by omega⟩))).symm
  congr 1
  funext key
  rw [← hs1]
  refine Finset.sum_congr rfl fun y _ => ?_
  simp only [hx, hwq, e1, e2]
  rfl

end Cert.Value
-- ==== Proof.Alg.lean ====
module

public import proofs.«01_k».proof.Defs
public import proofs.«01_k».proof.Proof.Frames
public import proofs.«01_k».proof.Proof.Value
public import proofs.«01_k».proof.Proof.Gen.Pre_scores_finite_KernelIdeal
public import proofs.«01_k».proof.Proof.Gen.Pre_scores_finite_ReferenceIdeal
public import Idealize.ShloMosaic.Lib.ReduceAll
public import Idealize.ShloMosaic.Lib.Layout

/-! The value claim: what the run leaves is the reference's result, cut into the devices' blocks. -/

@[expose] public section

set_option maxRecDepth 16384

noncomputable section

namespace Cert.Alg

open Cert.KernelIdeal Cert.KernelIdeal.Gen Idealize.ShloMosaic Idealize.ShloMosaic.TcCoe
open Cert.KernelIdeal.Attn (Ins insOf outF finalA dats run_args)

section
variable {F : FTy → Type} [FloatOps F] (m : (ℓ : Loc nD τ sig) → Buf (Elt F) ℓ) (ρ : Dev nD → PrngReg)

theorem ins_x (c : Dev nD) : (insOf m).x c = m ((c.tc : Thread nD τ).loc main_arg0) := by
  funext i
  show m ((c.tc : Thread nD τ).loc main_arg0) ((win0_0.blk (0 : Fin 1)).view.emb i) = _
  congr 1
  funext a
  exact Fin.ext (show 0 * win0_0.size a + 1 * (i a).val = (i a).val by omega)
theorem ins_wq (c : Dev nD) : (insOf m).wq c = m ((c.tc : Thread nD τ).loc main_arg1) := by
  funext i
  show m ((c.tc : Thread nD τ).loc main_arg1) ((win0_1.blk (0 : Fin 1)).view.emb i) = _
  congr 1
  funext a
  exact Fin.ext (show 0 * win0_1.size a + 1 * (i a).val = (i a).val by omega)
theorem ins_k (c : Dev nD) : (insOf m).k c = m ((c.tc : Thread nD τ).loc main_arg2) := by
  funext i
  show m ((c.tc : Thread nD τ).loc main_arg2) ((win0_2.blk (0 : Fin 1)).view.emb i) = _
  congr 1
  funext a
  exact Fin.ext (show 0 * win0_2.size a + 1 * (i a).val = (i a).val by omega)
theorem ins_v (c : Dev nD) : (insOf m).v c = m ((c.tc : Thread nD τ).loc main_arg3) := by
  funext i
  show m ((c.tc : Thread nD τ).loc main_arg3) ((win0_3.blk (0 : Fin 1)).view.emb i) = _
  congr 1
  funext a
  exact Fin.ext (show 0 * win0_3.size a + 1 * (i a).val = (i a).val by omega)
theorem ins_wo (c : Dev nD) : (insOf m).wo c = m ((c.tc : Thread nD τ).loc main_arg4) := by
  funext i
  show m ((c.tc : Thread nD τ).loc main_arg4) ((win0_4.blk (0 : Fin 1)).view.emb i) = _
  congr 1
  funext a
  exact Fin.ext (show 0 * win0_4.size a + 1 * (i a).val = (i a).val by omega)

/-- The result array holds the whole accumulator. -/
theorem final_out (c : Dev nD) : finalA m ρ c (5 : Fin 6) = outF (insOf m) c := by
  have ho : (win0_5.blk (0 : Fin 1)).view.read (Elt F) (finalA m ρ c (5 : Fin 6)) = outF (insOf m) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  refine Eq.trans ?_ ho
  funext i
  show finalA m ρ c (5 : Fin 6) i = finalA m ρ c (5 : Fin 6) ((win0_5.blk (0 : Fin 1)).view.emb i)
  congr 1
  funext a
  exact Fin.ext (show (i a).val = 0 * win0_5.size a + 1 * (i a).val by omega)
end

/-! ## The precondition -/

theorem and_one : ∀ a b : BitVec 1, IntOp.andi a b = 1#1 → a = 1#1 ∧ b = 1#1 := by decide
theorem bool_one (p : Bool) (h : BitVec.ofBool p = 1#1) : p = true := by
  cases p
  · exact absurd h (by decide)
  · rfl

theorem inf_bf16 : Ideal.ofBits .bf16 0x7F80#16 = ⊤ := by simp [Ideal.ofBits, Ideal.ieee]
theorem neg_inf_bf16 : Ideal.ofBits .bf16 0xFF80#16 = ⊥ := by simp [Ideal.ofBits, Ideal.ieee]

/-- An element between the infinities is a real number. -/
theorem real_of (a : EReal) (h : IntOp.andi (FloatOps.cmpf (F := Ideal) (φ := .bf16) .ogt a (Ideal.ofBits .bf16 0xFF80#16)) (FloatOps.cmpf (F := Ideal) (φ := .bf16) .olt a (Ideal.ofBits .bf16 0x7F80#16)) = 1#1) :
    ∃ r : ℝ, a = r := by
  obtain ⟨h1, h2⟩ := and_one _ _ h
  rw [neg_inf_bf16] at h1
  rw [inf_bf16] at h2
  induction a with
  | bot => exact absurd h1 (by simp [FloatOps.cmpf, Ideal.cmp])
  | top => exact absurd h2 (by simp [FloatOps.cmpf, Ideal.cmp])
  | coe r => exact ⟨r, rfl⟩

theorem pre_real (x : FVec Ideal S2x256x512 .bf16) (wq : FVec Ideal S512x256 .bf16) (k v : FVec Ideal S2x256x8192 .bf16) (wo : FVec Ideal S256x512 .bf16)
    (h : Cert.Pre_scores_finite_KernelIdeal.fn (F := Ideal) x wq k v wo = fun _ => 1#1) :
    (∀ i, ∃ r : ℝ, (x i : EReal) = r) ∧ (∀ i, ∃ r : ℝ, (wq i : EReal) = r) ∧ (∀ i, ∃ r : ℝ, (k i : EReal) = r) := by
  have h0 := congrFun h ix0
  obtain ⟨h12, h3⟩ := and_one _ _ h0
  obtain ⟨h1, h2⟩ := and_one _ _ h12
  haveI : Subsingleton Cert.Pre_scores_finite_KernelIdeal.S_.Idx := ⟨fun a b => funext fun i => i.elim0⟩
  refine ⟨fun i => ?_, fun i => ?_, fun i => ?_⟩
  · exact real_of _ (Host.reduce_andi_all _ _ _ _ _ h1 i)
  · exact real_of _ (Host.reduce_andi_all _ _ _ _ _ h2 i)
  · exact real_of _ (Host.reduce_andi_all _ _ _ _ _ h3 i)

/-! ## The claims -/

/-- An index of the whole array, and the device whose block holds it. -/
theorem block_x (X : FVec Ideal Cert.ReferenceIdeal.S2x8192x512 .bf16) (c : Fin 32) (b : Fin 2) (n : Fin 256) (e : Fin 512) :
    (Layout.block ⟨3, ![2, 256, 512]⟩ ⟨3, ![2, 8192, 512]⟩ 1 32 c X) (ix3 b n e) = X (ix3 b ⟨c.val * 256 + n.val, by omega⟩ e) := by
  refine congrArg X ?_
  funext a
  fin_cases a <;> exact Fin.ext rfl
theorem block_wq (X : FVec Ideal Cert.ReferenceIdeal.S512x8192 .bf16) (c : Fin 32) (e : Fin 512) (j : Fin 256) :
    (Layout.block ⟨2, ![512, 256]⟩ ⟨2, ![512, 8192]⟩ 1 32 c X) (ix2 e j) = X (ix2 e ⟨c.val * 256 + j.val, by omega⟩) := by
  refine congrArg X ?_
  funext a
  fin_cases a <;> exact Fin.ext rfl
theorem block_wo (X : FVec Ideal Cert.ReferenceIdeal.S8192x512 .bf16) (c : Fin 32) (j : Fin 256) (o : Fin 512) :
    (Layout.block ⟨2, ![256, 512]⟩ ⟨2, ![8192, 512]⟩ 0 32 c X) (ix2 j o) = X (ix2 ⟨c.val * 256 + j.val, by omega⟩ o) := by
  refine congrArg X ?_
  funext a
  fin_cases a <;> exact Fin.ext rfl

section
variable (X : FVec Ideal Cert.ReferenceIdeal.S2x8192x512 .bf16) (Wq : FVec Ideal Cert.ReferenceIdeal.S512x8192 .bf16)

theorem full_x (h : ∀ (c : Fin 32) i, ∃ r : ℝ, (Layout.block ⟨3, ![2, 256, 512]⟩ ⟨3, ![2, 8192, 512]⟩ 1 32 c X) i = (r : EReal)) (i) : ∃ r : ℝ, X i = (r : EReal) := by
  obtain ⟨b, J, e, rfl⟩ : ∃ (b : Fin 2) (J : Fin 8192) (e : Fin 512), i = ix3 b J e := ⟨i 0, i 1, i 2, by funext a; fin_cases a <;> rfl⟩
  obtain ⟨r, hr⟩ := h ⟨J.val / 256, by omega⟩ (ix3 b ⟨J.val % 256, Nat.mod_lt _ (by decide)⟩ e)
  rw [block_x] at hr
  refine ⟨r, hr ▸ congrArg (fun J' => X (ix3 b J' e)) (Fin.ext ?_)⟩
  show J.val = J.val / 256 * 256 + J.val % 256
  omega
theorem full_wq (h : ∀ (c : Fin 32) i, ∃ r : ℝ, (Layout.block ⟨2, ![512, 256]⟩ ⟨2, ![512, 8192]⟩ 1 32 c Wq) i = (r : EReal)) (i) : ∃ r : ℝ, Wq i = (r : EReal) := by
  obtain ⟨e, J, rfl⟩ : ∃ (e : Fin 512) (J : Fin 8192), i = ix2 e J := ⟨i 0, i 1, by funext a; fin_cases a <;> rfl⟩
  obtain ⟨r, hr⟩ := h ⟨J.val / 256, by omega⟩ (ix2 e ⟨J.val % 256, Nat.mod_lt _ (by decide)⟩)
  rw [block_wq] at hr
  refine ⟨r, hr ▸ congrArg (fun J' => Wq (ix2 e J')) (Fin.ext ?_)⟩
  show J.val = J.val / 256 * 256 + J.val % 256
  omega
end

theorem out_block (I : Ins Ideal) (Y : FVec Ideal Cert.ReferenceIdeal.S2x8192x512 .f32) (c : Fin 32)
    (h : ∀ (b : Fin 2) (n : Fin 256) (o : Fin 512), (outF I c (ix3 b n o) : EReal) = Y (ix3 b ⟨c.val * 256 + n.val, by omega⟩ o)) :
    outF I c = Layout.block ⟨3, ![2, 256, 512]⟩ ⟨3, ![2, 8192, 512]⟩ 1 32 c Y := by
  funext i
  obtain ⟨b, n, e, rfl⟩ : ∃ (b : Fin 2) (n : Fin 256) (e : Fin 512), i = ix3 b n e := ⟨i 0, i 1, i 2, by funext a; fin_cases a <;> rfl⟩
  refine (h b n e).trans (congrArg Y ?_)
  funext a
  fin_cases a <;> exact Fin.ext rfl

/-- The kernel leaves the reference's result on each device, cut into the devices' blocks. -/
theorem algebraic : Cert.algebraic_KernelIdeal_ReferenceIdeal_pre_scores_finite_KernelIdeal := by
  intro m g m' g' hpre hargs
  have hreal := fun c => pre_real _ _ _ _ _ (hpre c)
  refine ⟨Cert.ReferenceIdeal.Value.res_main_v46 m' 0, (θ_run Cert.KernelIdeal.defs _ _).mono (fun r h c => ⟨?_, (h.1 c).2⟩) (run_args (F := Ideal) m g),
    (θ_run Cert.ReferenceIdeal.defs _ _).mono (fun r h => h 0) (Cert.ReferenceIdeal.Value.run (F := Ideal) m' g')⟩
  rw [(h.1 c).1, final_out]
  refine out_block (insOf m) _ c fun b n o => ?_
  rw [RefVal.res_eq]
  refine Cert.Value.value_eq (insOf m) _ _ _ _ _ c (fun b n e => ?_) (fun d e j => ?_) ?_ ?_ (fun d j o => ?_) ?_ ?_ ?_ b n o
  · rw [ins_x, (hargs c).1]; exact block_x _ _ _ _ _
  · rw [ins_wq, (hargs d).2.1]; exact block_wq _ _ _ _
  · rw [ins_k, (hargs c).2.2.1]
  · rw [ins_v, (hargs c).2.2.2.1]
  · rw [ins_wo, (hargs d).2.2.2.2]; exact block_wo _ _ _ _
  · exact full_x _ fun d i => (hargs d).1 ▸ (hreal d).1 i
  · exact full_wq _ fun d i => (hargs d).2.1 ▸ (hreal d).2.1 i
  · exact fun i => (hargs c).2.2.1 ▸ (hreal c).2.2 i

theorem frame_kernelIdeal_pre : Cert.quiescent_KernelIdeal_pre_scores_finite_KernelIdeal := fun m g _ => Cert.Proof.frame_kernelIdeal m g trivial
theorem frame_reference_pre : Cert.quiescent_ReferenceIdeal_pre_scores_finite_ReferenceIdeal := fun m g _ => Cert.Proof.frame_reference m g trivial

end Cert.Alg
-- ==== Proof.lean ====
/- The proof of the claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_scores_finite_KernelIdeal
public import proofs.«01_k».proof.Proof.Gen.Pre_scores_finite_ReferenceIdeal
public import proofs.«01_k».proof.Proof.Alg

@[expose] public section

noncomputable section

theorem Cert.Proof.claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  Cert.Proof.frame_kernel, Cert.Proof.frame_kernelIdeal, Cert.Alg.frame_kernelIdeal_pre, Cert.Proof.frame_reference, Cert.Alg.frame_reference_pre, trivial,
  Cert.Alg.algebraic⟩

end
